-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_TimeOut (m : (ℓ : Loc Cert.TimeOut.nD Cert.TimeOut.τ Cert.TimeOut.sig) → Buf (Elt Bits) ℓ) : Prop :=
  True

def Pre_TimeOutIdeal (m : (ℓ : Loc Cert.TimeOutIdeal.nD Cert.TimeOutIdeal.τ Cert.TimeOutIdeal.sig) → Buf (Elt Ideal) ℓ) : Prop :=
  True

def Pre_TimeOutReferenceIdeal (m : (ℓ : Loc Cert.TimeOutReferenceIdeal.nD Cert.TimeOutReferenceIdeal.τ Cert.TimeOutReferenceIdeal.sig) → Buf (Elt Ideal) ℓ) : Prop :=
  True

def Pre_Experts [hPre_known : Cert.Pre_known.Facts] (m : (ℓ : Loc Cert.Experts.nD Cert.Experts.τ Cert.Experts.sig) → Buf (Elt Bits) ℓ) : Prop :=
  ∀ c : Dev Cert.Experts.nD,
    (Cert.Pre_known.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_known : Cert.Pre_known.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_known.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsIdeal_routed [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteReferenceIdeal (m : (ℓ : Loc Cert.RouteReferenceIdeal.nD Cert.RouteReferenceIdeal.τ Cert.RouteReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_TimeOut [hTimeOut : Cert.TimeOut.Facts] : Prop :=
  ∀ (m : (ℓ : Loc Cert.TimeOut.nD Cert.TimeOut.τ Cert.TimeOut.sig) → Buf (Elt Bits) ℓ) (g : Dev Cert.TimeOut.nD → PrngReg), Pre_TimeOut m →
    θ_run (Cert.TimeOut.defs (F := Bits)) (onTc (τ := Cert.TimeOut.τ) (Cert.TimeOut.main (F := Bits))) ⟨m, fun _ => 0, g⟩ (fun r => (∀ c : Dev Cert.TimeOut.nD,
      r.2.mem ((c.tc : Thread Cert.TimeOut.nD Cert.TimeOut.τ).loc Cert.TimeOut.main_arg0) = m ((c.tc : Thread Cert.TimeOut.nD Cert.TimeOut.τ).loc Cert.TimeOut.main_arg0)
      ∧ r.2.mem ((c.tc : Thread Cert.TimeOut.nD Cert.TimeOut.τ).loc Cert.TimeOut.main_arg1) = m ((c.tc : Thread Cert.TimeOut.nD Cert.TimeOut.τ).loc Cert.TimeOut.main_arg1)
      ∧ r.2.mem ((c.tc : Thread Cert.TimeOut.nD Cert.TimeOut.τ).loc Cert.TimeOut.main_arg2) = m ((c.tc : Thread Cert.TimeOut.nD Cert.TimeOut.τ).loc Cert.TimeOut.main_arg2)
      ∧ r.2.mem ((c.tc : Thread Cert.TimeOut.nD Cert.TimeOut.τ).loc Cert.TimeOut.main_arg3) = m ((c.tc : Thread Cert.TimeOut.nD Cert.TimeOut.τ).loc Cert.TimeOut.main_arg3))
      ∧ r.2.sem = fun _ => 0)

def quiescent_TimeOutIdeal [hTimeOutIdeal : Cert.TimeOutIdeal.Facts] : Prop :=
  ∀ (m : (ℓ : Loc Cert.TimeOutIdeal.nD Cert.TimeOutIdeal.τ Cert.TimeOutIdeal.sig) → Buf (Elt Ideal) ℓ) (g : Dev Cert.TimeOutIdeal.nD → PrngReg), Pre_TimeOutIdeal m →
    θ_run (Cert.TimeOutIdeal.defs (F := Ideal)) (onTc (τ := Cert.TimeOutIdeal.τ) (Cert.TimeOutIdeal.main (F := Ideal))) ⟨m, fun _ => 0, g⟩ (fun r => (∀ c : Dev Cert.TimeOutIdeal.nD,
      r.2.mem ((c.tc : Thread Cert.TimeOutIdeal.nD Cert.TimeOutIdeal.τ).loc Cert.TimeOutIdeal.main_arg0) = m ((c.tc : Thread Cert.TimeOutIdeal.nD Cert.TimeOutIdeal.τ).loc Cert.TimeOutIdeal.main_arg0)
      ∧ r.2.mem ((c.tc : Thread Cert.TimeOutIdeal.nD Cert.TimeOutIdeal.τ).loc Cert.TimeOutIdeal.main_arg1) = m ((c.tc : Thread Cert.TimeOutIdeal.nD Cert.TimeOutIdeal.τ).loc Cert.TimeOutIdeal.main_arg1)
      ∧ r.2.mem ((c.tc : Thread Cert.TimeOutIdeal.nD Cert.TimeOutIdeal.τ).loc Cert.TimeOutIdeal.main_arg2) = m ((c.tc : Thread Cert.TimeOutIdeal.nD Cert.TimeOutIdeal.τ).loc Cert.TimeOutIdeal.main_arg2)
      ∧ r.2.mem ((c.tc : Thread Cert.TimeOutIdeal.nD Cert.TimeOutIdeal.τ).loc Cert.TimeOutIdeal.main_arg3) = m ((c.tc : Thread Cert.TimeOutIdeal.nD Cert.TimeOutIdeal.τ).loc Cert.TimeOutIdeal.main_arg3))
      ∧ r.2.sem = fun _ => 0)

def quiescent_TimeOutReferenceIdeal [hTimeOutReferenceIdeal : Cert.TimeOutReferenceIdeal.Facts] : Prop :=
  ∀ (m : (ℓ : Loc Cert.TimeOutReferenceIdeal.nD Cert.TimeOutReferenceIdeal.τ Cert.TimeOutReferenceIdeal.sig) → Buf (Elt Ideal) ℓ) (g : Dev Cert.TimeOutReferenceIdeal.nD → PrngReg), Pre_TimeOutReferenceIdeal m →
    θ_run (Cert.TimeOutReferenceIdeal.defs (F := Ideal)) (onTc (τ := Cert.TimeOutReferenceIdeal.τ) (Cert.TimeOutReferenceIdeal.main (F := Ideal))) ⟨m, fun _ => 0, g⟩ (fun r => (∀ c : Dev Cert.TimeOutReferenceIdeal.nD,
      r.2.mem ((c.tc : Thread Cert.TimeOutReferenceIdeal.nD Cert.TimeOutReferenceIdeal.τ).loc Cert.TimeOutReferenceIdeal.main_arg0) = m ((c.tc : Thread Cert.TimeOutReferenceIdeal.nD Cert.TimeOutReferenceIdeal.τ).loc Cert.TimeOutReferenceIdeal.main_arg0)
      ∧ r.2.mem ((c.tc : Thread Cert.TimeOutReferenceIdeal.nD Cert.TimeOutReferenceIdeal.τ).loc Cert.TimeOutReferenceIdeal.main_arg1) = m ((c.tc : Thread Cert.TimeOutReferenceIdeal.nD Cert.TimeOutReferenceIdeal.τ).loc Cert.TimeOutReferenceIdeal.main_arg1)
      ∧ r.2.mem ((c.tc : Thread Cert.TimeOutReferenceIdeal.nD Cert.TimeOutReferenceIdeal.τ).loc Cert.TimeOutReferenceIdeal.main_arg2) = m ((c.tc : Thread Cert.TimeOutReferenceIdeal.nD Cert.TimeOutReferenceIdeal.τ).loc Cert.TimeOutReferenceIdeal.main_arg2)
      ∧ r.2.mem ((c.tc : Thread Cert.TimeOutReferenceIdeal.nD Cert.TimeOutReferenceIdeal.τ).loc Cert.TimeOutReferenceIdeal.main_arg3) = m ((c.tc : Thread Cert.TimeOutReferenceIdeal.nD Cert.TimeOutReferenceIdeal.τ).loc Cert.TimeOutReferenceIdeal.main_arg3))
      ∧ r.2.sem = fun _ => 0)

def quiescent_Experts [hExperts : Cert.Experts.Facts] [hPre_known : Cert.Pre_known.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_known : Cert.Pre_known.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsIdeal_pre_routed [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_routed m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2)
      ∧ r.2.mem ((c.tc : Thread Cert.RouteReferenceIdeal.nD Cert.RouteReferenceIdeal.τ).loc Cert.RouteReferenceIdeal.main_arg3) = m ((c.tc : Thread Cert.RouteReferenceIdeal.nD Cert.RouteReferenceIdeal.τ).loc Cert.RouteReferenceIdeal.main_arg3)
      ∧ r.2.mem ((c.tc : Thread Cert.RouteReferenceIdeal.nD Cert.RouteReferenceIdeal.τ).loc Cert.RouteReferenceIdeal.main_arg4) = m ((c.tc : Thread Cert.RouteReferenceIdeal.nD Cert.RouteReferenceIdeal.τ).loc Cert.RouteReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v29) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v16) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_TimeOut_TimeOutIdeal : Prop :=
  True

def algebraic_TimeOutIdeal_TimeOutReferenceIdeal [hTimeOutIdeal : Cert.TimeOutIdeal.Facts] [hTimeOutReferenceIdeal : Cert.TimeOutReferenceIdeal.Facts] : Prop :=
  ∀ (m : (ℓ : Loc Cert.TimeOutIdeal.nD Cert.TimeOutIdeal.τ Cert.TimeOutIdeal.sig) → Buf (Elt Ideal) ℓ) (g : Dev Cert.TimeOutIdeal.nD → PrngReg)
    (m' : (ℓ : Loc Cert.TimeOutReferenceIdeal.nD Cert.TimeOutReferenceIdeal.τ Cert.TimeOutReferenceIdeal.sig) → Buf (Elt Ideal) ℓ) (g' : Dev Cert.TimeOutReferenceIdeal.nD → PrngReg), Pre_TimeOutIdeal m →
    (∀ c : Dev Cert.TimeOutIdeal.nD,
      m' ((c.tc : Thread Cert.TimeOutReferenceIdeal.nD Cert.TimeOutReferenceIdeal.τ).loc Cert.TimeOutReferenceIdeal.main_arg0) = m ((c.tc : Thread Cert.TimeOutIdeal.nD Cert.TimeOutIdeal.τ).loc Cert.TimeOutIdeal.main_arg0)
      ∧ m' ((c.tc : Thread Cert.TimeOutReferenceIdeal.nD Cert.TimeOutReferenceIdeal.τ).loc Cert.TimeOutReferenceIdeal.main_arg1) = m ((c.tc : Thread Cert.TimeOutIdeal.nD Cert.TimeOutIdeal.τ).loc Cert.TimeOutIdeal.main_arg1)
      ∧ m' ((c.tc : Thread Cert.TimeOutReferenceIdeal.nD Cert.TimeOutReferenceIdeal.τ).loc Cert.TimeOutReferenceIdeal.main_arg2) = m ((c.tc : Thread Cert.TimeOutIdeal.nD Cert.TimeOutIdeal.τ).loc Cert.TimeOutIdeal.main_arg2)
      ∧ m' ((c.tc : Thread Cert.TimeOutReferenceIdeal.nD Cert.TimeOutReferenceIdeal.τ).loc Cert.TimeOutReferenceIdeal.main_arg3) = m ((c.tc : Thread Cert.TimeOutIdeal.nD Cert.TimeOutIdeal.τ).loc Cert.TimeOutIdeal.main_arg3)) →
    ∃ (v0 : (c : Dev Cert.TimeOutIdeal.nD) → Buf (Elt Ideal) ((c.tc : Thread Cert.TimeOutIdeal.nD Cert.TimeOutIdeal.τ).loc Cert.TimeOutIdeal.main_v2)),
      θ_run (Cert.TimeOutIdeal.defs (F := Ideal)) (onTc (τ := Cert.TimeOutIdeal.τ) (Cert.TimeOutIdeal.main (F := Ideal))) ⟨m, fun _ => 0, g⟩ (fun r => ∀ c : Dev Cert.TimeOutIdeal.nD,
          r.2.mem ((c.tc : Thread Cert.TimeOutIdeal.nD Cert.TimeOutIdeal.τ).loc Cert.TimeOutIdeal.main_v2) = v0 c
          ∧ r.2.mem ((c.tc : Thread Cert.TimeOutIdeal.nD Cert.TimeOutIdeal.τ).loc Cert.TimeOutIdeal.main_arg0) = m ((c.tc : Thread Cert.TimeOutIdeal.nD Cert.TimeOutIdeal.τ).loc Cert.TimeOutIdeal.main_arg0)
          ∧ r.2.mem ((c.tc : Thread Cert.TimeOutIdeal.nD Cert.TimeOutIdeal.τ).loc Cert.TimeOutIdeal.main_arg1) = m ((c.tc : Thread Cert.TimeOutIdeal.nD Cert.TimeOutIdeal.τ).loc Cert.TimeOutIdeal.main_arg1)
          ∧ r.2.mem ((c.tc : Thread Cert.TimeOutIdeal.nD Cert.TimeOutIdeal.τ).loc Cert.TimeOutIdeal.main_arg2) = m ((c.tc : Thread Cert.TimeOutIdeal.nD Cert.TimeOutIdeal.τ).loc Cert.TimeOutIdeal.main_arg2)
          ∧ r.2.mem ((c.tc : Thread Cert.TimeOutIdeal.nD Cert.TimeOutIdeal.τ).loc Cert.TimeOutIdeal.main_arg3) = m ((c.tc : Thread Cert.TimeOutIdeal.nD Cert.TimeOutIdeal.τ).loc Cert.TimeOutIdeal.main_arg3))
      ∧ θ_run (Cert.TimeOutReferenceIdeal.defs (F := Ideal)) (onTc (τ := Cert.TimeOutReferenceIdeal.τ) (Cert.TimeOutReferenceIdeal.main (F := Ideal))) ⟨m', fun _ => 0, g'⟩ (fun r => ∀ c : Dev Cert.TimeOutReferenceIdeal.nD,
          r.2.mem ((c.tc : Thread Cert.TimeOutReferenceIdeal.nD Cert.TimeOutReferenceIdeal.τ).loc Cert.TimeOutReferenceIdeal.main_v14) = v0 c
          ∧ r.2.mem ((c.tc : Thread Cert.TimeOutReferenceIdeal.nD Cert.TimeOutReferenceIdeal.τ).loc Cert.TimeOutReferenceIdeal.main_arg0) = m' ((c.tc : Thread Cert.TimeOutReferenceIdeal.nD Cert.TimeOutReferenceIdeal.τ).loc Cert.TimeOutReferenceIdeal.main_arg0)
          ∧ r.2.mem ((c.tc : Thread Cert.TimeOutReferenceIdeal.nD Cert.TimeOutReferenceIdeal.τ).loc Cert.TimeOutReferenceIdeal.main_arg1) = m' ((c.tc : Thread Cert.TimeOutReferenceIdeal.nD Cert.TimeOutReferenceIdeal.τ).loc Cert.TimeOutReferenceIdeal.main_arg1)
          ∧ r.2.mem ((c.tc : Thread Cert.TimeOutReferenceIdeal.nD Cert.TimeOutReferenceIdeal.τ).loc Cert.TimeOutReferenceIdeal.main_arg2) = m' ((c.tc : Thread Cert.TimeOutReferenceIdeal.nD Cert.TimeOutReferenceIdeal.τ).loc Cert.TimeOutReferenceIdeal.main_arg2)
          ∧ r.2.mem ((c.tc : Thread Cert.TimeOutReferenceIdeal.nD Cert.TimeOutReferenceIdeal.τ).loc Cert.TimeOutReferenceIdeal.main_arg3) = m' ((c.tc : Thread Cert.TimeOutReferenceIdeal.nD Cert.TimeOutReferenceIdeal.τ).loc Cert.TimeOutReferenceIdeal.main_arg3))

def preserves_Experts_ExpertsIdeal : Prop :=
  True

def algebraic_ExpertsIdeal_ExpertsReferenceIdeal_pre_routed [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal_routed m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v27) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v5) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_Route_RouteIdeal : Prop :=
  True

def algebraic_RouteIdeal_RouteReferenceIdeal [hRouteIdeal : Cert.RouteIdeal.Facts] [hRouteReferenceIdeal : Cert.RouteReferenceIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)
      ∧ m' ((c.tc : Thread Cert.RouteReferenceIdeal.nD Cert.RouteReferenceIdeal.τ).loc Cert.RouteReferenceIdeal.main_arg2) = m ((c.tc : Thread Cert.RouteIdeal.nD Cert.RouteIdeal.τ).loc Cert.RouteIdeal.main_arg2)
      ∧ m' ((c.tc : Thread Cert.RouteReferenceIdeal.nD Cert.RouteReferenceIdeal.τ).loc Cert.RouteReferenceIdeal.main_arg3) = m ((c.tc : Thread Cert.RouteIdeal.nD Cert.RouteIdeal.τ).loc Cert.RouteIdeal.main_arg3)
      ∧ m' ((c.tc : Thread Cert.RouteReferenceIdeal.nD Cert.RouteReferenceIdeal.τ).loc Cert.RouteReferenceIdeal.main_arg4) = m ((c.tc : Thread Cert.RouteIdeal.nD Cert.RouteIdeal.τ).loc Cert.RouteIdeal.main_arg4)) →
    ∃ (v0 : (c : Dev Cert.RouteIdeal.nD) → Buf (Elt Ideal) ((c.tc : Thread Cert.RouteIdeal.nD Cert.RouteIdeal.τ).loc Cert.RouteIdeal.main_v4_0)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v4_0) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v27) = v0 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1)
          ∧ r.2.mem ((c.tc : Thread Cert.RouteReferenceIdeal.nD Cert.RouteReferenceIdeal.τ).loc Cert.RouteReferenceIdeal.main_arg2) = m' ((c.tc : Thread Cert.RouteReferenceIdeal.nD Cert.RouteReferenceIdeal.τ).loc Cert.RouteReferenceIdeal.main_arg2)
          ∧ r.2.mem ((c.tc : Thread Cert.RouteReferenceIdeal.nD Cert.RouteReferenceIdeal.τ).loc Cert.RouteReferenceIdeal.main_arg3) = m' ((c.tc : Thread Cert.RouteReferenceIdeal.nD Cert.RouteReferenceIdeal.τ).loc Cert.RouteReferenceIdeal.main_arg3)
          ∧ r.2.mem ((c.tc : Thread Cert.RouteReferenceIdeal.nD Cert.RouteReferenceIdeal.τ).loc Cert.RouteReferenceIdeal.main_arg4) = m' ((c.tc : Thread Cert.RouteReferenceIdeal.nD Cert.RouteReferenceIdeal.τ).loc Cert.RouteReferenceIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hTimeOut : Cert.TimeOut.Facts) (hTimeOutIdeal : Cert.TimeOutIdeal.Facts) (hTimeOutReferenceIdeal : Cert.TimeOutReferenceIdeal.Facts) (hExperts : Cert.Experts.Facts) (hExpertsIdeal : Cert.ExpertsIdeal.Facts) (hExpertsReferenceIdeal : Cert.ExpertsReferenceIdeal.Facts) (hModulation : Cert.Modulation.Facts) (hModulationIdeal : Cert.ModulationIdeal.Facts) (hModulationReferenceIdeal : Cert.ModulationReferenceIdeal.Facts) (hRoute : Cert.Route.Facts) (hRouteIdeal : Cert.RouteIdeal.Facts) (hRouteReferenceIdeal : Cert.RouteReferenceIdeal.Facts) (hPre_finite : Cert.Pre_finite.Facts) (hPre_known : Cert.Pre_known.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_TimeOut (hTimeOut := hTimeOut)
    ∧ quiescent_TimeOutIdeal (hTimeOutIdeal := hTimeOutIdeal)
    ∧ quiescent_TimeOutReferenceIdeal (hTimeOutReferenceIdeal := hTimeOutReferenceIdeal)
    ∧ quiescent_Experts (hExperts := hExperts) (hPre_known := hPre_known)
    ∧ quiescent_ExpertsIdeal (hExpertsIdeal := hExpertsIdeal) (hPre_known := hPre_known)
    ∧ quiescent_ExpertsIdeal_pre_routed (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_Route (hRoute := hRoute)
    ∧ quiescent_RouteIdeal (hRouteIdeal := hRouteIdeal)
    ∧ quiescent_RouteReferenceIdeal (hRouteReferenceIdeal := hRouteReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_TimeOut_TimeOutIdeal
    ∧ algebraic_TimeOutIdeal_TimeOutReferenceIdeal (hTimeOutIdeal := hTimeOutIdeal) (hTimeOutReferenceIdeal := hTimeOutReferenceIdeal)
    ∧ preserves_Experts_ExpertsIdeal
    ∧ algebraic_ExpertsIdeal_ExpertsReferenceIdeal_pre_routed (hExpertsIdeal := hExpertsIdeal) (hExpertsReferenceIdeal := hExpertsReferenceIdeal) (hPre_routed := hPre_routed)
    ∧ preserves_Modulation_ModulationIdeal
    ∧ algebraic_ModulationIdeal_ModulationReferenceIdeal (hModulationIdeal := hModulationIdeal) (hModulationReferenceIdeal := hModulationReferenceIdeal)
    ∧ preserves_Route_RouteIdeal
    ∧ algebraic_RouteIdeal_RouteReferenceIdeal (hRouteIdeal := hRouteIdeal) (hRouteReferenceIdeal := hRouteReferenceIdeal)
-- ==== Pre_finite.lean ====
abbrev S32768x6144 : Shape := ⟨2, ![32768, 6144]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S32768x6144 : S_.BroadcastsInDim S32768x6144 (![] : Fin 0 → Fin S32768x6144.rank)
  reducesTo_S32768x6144_S_d0_1 : S32768x6144.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S32768x6144 .bf16) (main_arg1 : FVec F S4x64 .f32) (main_arg2 : FVec F S128 .f32) : IVec S_ 1 :=
  let main_v0 : FVec F S32768x6144 .f32 := (extf .f32 · bitsLt_bf16_f32) main_arg0
  let main_v1 : FVec F S32768x6144 .f32 := Host.absf main_v0
  let main_cst : FVec F S_ .f32 := constant S_ .f32 0x7F800000#32
  let main_v2 : FVec F S32768x6144 .f32 := broadcastInDim S32768x6144 ![] bcast_S_S32768x6144 main_cst
  let main_v3 : IVec S32768x6144 1 := cmpf .olt main_v1 main_v2
  let main_c : IVec S_ 1 := constantI S_ 1 1#1
  let main_v4 : IVec S_ 1 := (fun x v => Host.reduce IntOp.andi x v reducesTo_S32768x6144_S_d0_1 h_S_) main_v3 main_c
  let main_v5 : FVec F S4x64 .f32 := Host.absf main_arg1
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  main_v9
-- ==== Pre_known.lean ====
abbrev S69632x2048 : Shape := ⟨2, ![69632, 2048]⟩
abbrev S272 : Shape := ⟨1, ![272]⟩
abbrev S1 : Shape := ⟨1, ![1]⟩
abbrev S16x2048x1024 : Shape := ⟨3, ![16, 2048, 1024]⟩
abbrev S16x1024x2048 : Shape := ⟨3, ![16, 1024, 2048]⟩
abbrev S_ : Shape := ⟨0, ![]⟩

class Facts : Prop where
  bcast_S_S272 : S_.BroadcastsInDim S272 (![] : Fin 0 → Fin S272.rank)
  reducesTo_S272_S_d0 : S272.ReducesTo [0] S_
  h_S_ : 0 < S_.numel

variable [Facts]

def fn {F : FTy → Type} [FloatOps F] (main_arg0 : FVec F S69632x2048 .f32) (main_arg1 : IVec S272 32) (main_arg2 : IVec S1 32) (main_arg3 : FVec F S16x2048x1024 .f32) (main_arg4 : FVec F S16x2048x1024 .f32) (main_arg5 : FVec F S16x1024x2048 .f32) : IVec S_ 1 :=
  let main_c : IVec S_ 32 := constantI S_ 32 0#32
  let main_v0 : IVec S272 32 := broadcastInDim S272 ![] bcast_S_S272 main_c
  let main_v1 : IVec S272 1 := cmpi .sge main_arg1 main_v0
  let main_c_0 : IVec S_ 32 := constantI S_ 32 16#32
  let main_v2 : IVec S272 32 := broadcastInDim S272 ![] bcast_S_S272 main_c_0
  let main_v3 : IVec S272 1 := cmpi .slt main_arg1 main_v2
  let main_v4 : IVec S272 1 := andi main_v1 main_v3
  let main_c_1 : IVec S_ 1 := constantI S_ 1 1#1
  let main_v5 : IVec S_ 1 := (fun x v => Host.reduce IntOp.andi x v reducesTo_S272_S_d0 h_S_) main_v4 main_c_1
  main_v5
-- ==== Pre_routed.lean ====
abbrev S69632x2048 : Shape := ⟨2, ![69632, 2048]⟩
abbrev S272 : Shape := ⟨1, ![272]⟩
abbrev S1 : Shape := ⟨1, ![1]⟩
abbrev S16x2048x1024 : Shape := ⟨3, ![16, 2048, 1024]⟩
abbrev S16x1024x2048 : Shape := ⟨3, ![16, 1024, 2048]⟩
abbrev S272x256x2048 : Shape := ⟨3, ![272, 256, 2048]⟩
abbrev S_ : Shape := ⟨0, ![]⟩

class Facts : Prop where
  shapeCasts_S272x256x2048_S69632x2048 : S272x256x2048.ShapeCasts S69632x2048
  bcast_S_S272 : S_.BroadcastsInDim S272 (![] : Fin 0 → Fin S272.rank)
  reducesTo_S272_S_d0 : S272.ReducesTo [0] S_
  h_S_ : 0 < S_.numel
  shapeCasts_S1_S_ : S1.ShapeCasts S_
  bcast_S_S69632x2048 : S_.BroadcastsInDim S69632x2048 (![] : Fin 0 → Fin S69632x2048.rank)
  reducesTo_S69632x2048_S_d0_1 : S69632x2048.ReducesTo [0, 1] S_

variable [Facts]

def fn {F : FTy → Type} [FloatOps F] (main_arg0 : FVec F S69632x2048 .f32) (main_arg1 : IVec S272 32) (main_arg2 : IVec S1 32) (main_arg3 : FVec F S16x2048x1024 .f32) (main_arg4 : FVec F S16x2048x1024 .f32) (main_arg5 : FVec F S16x1024x2048 .f32) : IVec S_ 1 :=
  let main_v0 : IVec S272x256x2048 32 := iotaInDim S272x256x2048 32 0
  let main_v1 : IVec S69632x2048 32 := shapeCast S69632x2048 main_v0 shapeCasts_S272x256x2048_S69632x2048
  let main_c : IVec S_ 32 := constantI S_ 32 0#32
  let main_v2 : IVec S272 32 := broadcastInDim S272 ![] bcast_S_S272 main_c
  let main_v3 : IVec S272 1 := cmpi .sge main_arg1 main_v2
  let main_c_0 : IVec S_ 32 := constantI S_ 32 16#32
  let main_v4 : IVec S272 32 := broadcastInDim S272 ![] bcast_S_S272 main_c_0
  let main_v5 : IVec S272 1 := cmpi .slt main_arg1 main_v4
  let main_v6 : IVec S272 1 := andi main_v3 main_v5
  let main_c_1 : IVec S_ 1 := constantI S_ 1 1#1
  let main_v7 : IVec S_ 1 := (fun x v => Host.reduce IntOp.andi x v reducesTo_S272_S_d0 h_S_) main_v6 main_c_1
  let main_v8 : IVec S_ 32 := shapeCast S_ main_arg2 shapeCasts_S1_S_
  let main_v9 : IVec S69632x2048 32 := broadcastInDim S69632x2048 ![] bcast_S_S69632x2048 main_v8
  let main_v10 : IVec S69632x2048 1 := cmpi .slt main_v1 main_v9
  let main_cst : FVec F S_ .f32 := constant S_ .f32 0x00000000#32
  let main_v11 : FVec F S69632x2048 .f32 := broadcastInDim S69632x2048 ![] bcast_S_S69632x2048 main_cst
  let main_v12 : IVec S69632x2048 1 := cmpf .oeq main_arg0 main_v11
  let main_v13 : IVec S69632x2048 1 := ori main_v10 main_v12
  let main_c_2 : IVec S_ 1 := constantI S_ 1 1#1
  let main_v14 : IVec S_ 1 := (fun x v => Host.reduce IntOp.andi x v reducesTo_S69632x2048_S_d0_1 h_S_) main_v13 main_c_2
  let main_v15 : IVec S_ 1 := andi main_v7 main_v14
  main_v15
-- ==== Kernel.lean ====
abbrev S32768x6144 : Shape := ⟨2, ![32768, 6144]⟩
abbrev S4x64 : Shape := ⟨2, ![4, 64]⟩
abbrev S128 : Shape := ⟨1, ![128]⟩
abbrev S8 : Shape := ⟨1, ![8]⟩
abbrev S_ : Shape := ⟨0, ![]⟩
abbrev S8x1x1 : Shape := ⟨3, ![8, 1, 1]⟩
abbrev S8x1x256 : Shape := ⟨3, ![8, 1, 256]⟩
abbrev S1x128 : Shape := ⟨2, ![1, 128]⟩
abbrev S32768x1024 : Shape := ⟨2, ![32768, 1024]⟩
abbrev S128x128 : Shape := ⟨2, ![128, 128]⟩
abbrev S2048x128 : Shape := ⟨2, ![2048, 128]⟩
abbrev S1x1x256 : Shape := ⟨3, ![1, 1, 256]⟩
abbrev S256x128 : Shape := ⟨2, ![256, 128]⟩
abbrev S256x256 : Shape := ⟨2, ![256, 256]⟩
abbrev S1x256 : Shape := ⟨2, ![1, 256]⟩
abbrev S256x1 : Shape := ⟨2, ![256, 1]⟩
abbrev S256 : Shape := ⟨1, ![256]⟩
abbrev S1x64 : Shape := ⟨2, ![1, 64]⟩
abbrev S1 : Shape := ⟨1, ![1]⟩
abbrev S1x1 : Shape := ⟨2, ![1, 1]⟩
abbrev S128x1 : Shape := ⟨2, ![128, 1]⟩

abbrev nBuf : Space → Nat
  | .hbm => 20
  | .vmem => 12
  | .smem => 0
  | _ => 0

abbrev bufTy : (tb : Table) → Fin (tcTables nBuf tb) → BufTy
  | .hbm, ⟨0, _⟩ => ⟨S32768x6144, .bf16⟩
  | .hbm, ⟨1, _⟩ => ⟨S4x64, .f32⟩
  | .hbm, ⟨2, _⟩ => ⟨S128, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8x1x1, .f32⟩
  | .hbm, ⟨17, _⟩ => ⟨S8x1x256, .f32⟩
  | .hbm, ⟨18, _⟩ => ⟨S1x128, .f32⟩
  | .hbm, ⟨19, _⟩ => ⟨S32768x1024, .bf16⟩
  | .local _ .vmem, ⟨0, _⟩ => ⟨S128x128, .bf16⟩
  | .local _ .vmem, ⟨1, _⟩ => ⟨S128x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x256, .f32⟩
  | .local _ .vmem, ⟨7, _⟩ => ⟨S1x1x256, .f32⟩
  | .local _ .vmem, ⟨8, _⟩ => ⟨S4x64, .f32⟩
  | .local _ .vmem, ⟨9, _⟩ => ⟨S1x128, .f32⟩
  | .local _ .vmem, ⟨10, _⟩ => ⟨S128x128, .bf16⟩
  | .local _ .vmem, ⟨11, _⟩ => ⟨S128x128, .bf16⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 8, 16], ![false, false, false]⟩

@[reducible] def k0_t1_loop (i : grid0.Coords) : Scf.Loop 32 :=
  let c0_i32_24 : BitVec 32 := 0#32
  let arg2 : BitVec 32 := BitVec.ofNat 32 (i 2).val
  let c128_i32_9 : BitVec 32 := 128#32
  let v23 : BitVec 32 := Scalar.muli arg2 c128_i32_9
  let c0_i32 : BitVec 32 := 0#32
  let v25 : BitVec 1 := Scalar.cmpi .sgt v23 c0_i32
  let v26 : BitVec 32 := Scalar.extui v25
  let c0_i32_10 : BitVec 32 := 0#32
  let v27 : BitVec 1 := Scalar.cmpi .slt v23 c0_i32_10
  let v28 : BitVec 32 := Scalar.extui v27
  let v29 : BitVec 32 := Scalar.subi v26 v28
  let c256_i32 : BitVec 32 := 256#32
  let c0_i32_11 : BitVec 32 := 0#32
  let v30 : BitVec 1 := Scalar.cmpi .sgt c256_i32 c0_i32_11
  let v31 : BitVec 32 := Scalar.extui v30
  let c0_i32_12 : BitVec 32 := 0#32
  let v32 : BitVec 1 := Scalar.cmpi .slt c256_i32 c0_i32_12
  let v33 : BitVec 32 := Scalar.extui v32
  let v34 : BitVec 32 := Scalar.subi v31 v33
  let v35 : BitVec 1 := Scalar.cmpi .ne v29 v34
  let v36 : BitVec 32 := Scalar.remsi v23 c256_i32
  let c0_i32_13 : BitVec 32 := 0#32
  let v37 : BitVec 1 := Scalar.cmpi .ne v36 c0_i32_13
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let v61 : BitVec 32 := Scalar.subi v40 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_26 : BitVec 32 := 1#32
  ⟨c0_i32_24, v65, c1_i32_26⟩
def k0_mult1 (i : grid0.Coords) (k0_t1 : Fin (k0_t1_loop i).trips) : BitVec 32 :=
  let c0_i32_24 : BitVec 32 := 0#32
  let c1_i32_26 : BitVec 32 := 1#32
  let arg10 : BitVec 32 := Scf.iv c0_i32_24 c1_i32_26 k0_t1
  let c256_i32_54 : BitVec 32 := 256#32
  let v153 : BitVec 32 := Scalar.muli arg10 c256_i32_54
  v153
def k0_off1 (i : grid0.Coords) (k0_t1 : Fin (k0_t1_loop i).trips) : Fin 2 → Nat :=
  let c0_i32_24 : BitVec 32 := 0#32
  let c1_i32_26 : BitVec 32 := 1#32
  let arg10 : BitVec 32 := Scf.iv c0_i32_24 c1_i32_26 k0_t1
  let c256_i32_54 : BitVec 32 := 256#32
  let v153 : BitVec 32 := Scalar.muli arg10 c256_i32_54
  let v154 : BitVec 32 := v153
  let v155 : Index := Scalar.indexCast v154
  let c0_55 : Index := 0#32
  ![v155.toNat, 0]
@[reducible] def k0_t2_loop (i : grid0.Coords) : Scf.Loop 32 :=
  let c0_i32_24 : BitVec 32 := 0#32
  let arg2 : BitVec 32 := BitVec.ofNat 32 (i 2).val
  let c128_i32_9 : BitVec 32 := 128#32
  let v23 : BitVec 32 := Scalar.muli arg2 c128_i32_9
  let c0_i32 : BitVec 32 := 0#32
  let v25 : BitVec 1 := Scalar.cmpi .sgt v23 c0_i32
  let v26 : BitVec 32 := Scalar.extui v25
  let c0_i32_10 : BitVec 32 := 0#32
  let v27 : BitVec 1 := Scalar.cmpi .slt v23 c0_i32_10
  let v28 : BitVec 32 := Scalar.extui v27
  let v29 : BitVec 32 := Scalar.subi v26 v28
  let c256_i32 : BitVec 32 := 256#32
  let c0_i32_11 : BitVec 32 := 0#32
  let v30 : BitVec 1 := Scalar.cmpi .sgt c256_i32 c0_i32_11
  let v31 : BitVec 32 := Scalar.extui v30
  let c0_i32_12 : BitVec 32 := 0#32
  let v32 : BitVec 1 := Scalar.cmpi .slt c256_i32 c0_i32_12
  let v33 : BitVec 32 := Scalar.extui v32
  let v34 : BitVec 32 := Scalar.subi v31 v33
  let v35 : BitVec 1 := Scalar.cmpi .ne v29 v34
  let v36 : BitVec 32 := Scalar.remsi v23 c256_i32
  let c0_i32_13 : BitVec 32 := 0#32
  let v37 : BitVec 1 := Scalar.cmpi .ne v36 c0_i32_13
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let v61 : BitVec 32 := Scalar.subi v40 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let v62 : BitVec 32 := Scalar.addi c0_i32_24 v61
  let c1_i32_27 : BitVec 32 := 1#32
  ⟨v65, v62, c1_i32_27⟩
def k0_mult2 (i : grid0.Coords) (k0_t2 : Fin (k0_t2_loop i).trips) : BitVec 32 :=
  let c0_i32_24 : BitVec 32 := 0#32
  let arg2 : BitVec 32 := BitVec.ofNat 32 (i 2).val
  let c128_i32_9 : BitVec 32 := 128#32
  let v23 : BitVec 32 := Scalar.muli arg2 c128_i32_9
  let c0_i32 : BitVec 32 := 0#32
  let v25 : BitVec 1 := Scalar.cmpi .sgt v23 c0_i32
  let v26 : BitVec 32 := Scalar.extui v25
  let c0_i32_10 : BitVec 32 := 0#32
  let v27 : BitVec 1 := Scalar.cmpi .slt v23 c0_i32_10
  let v28 : BitVec 32 := Scalar.extui v27
  let v29 : BitVec 32 := Scalar.subi v26 v28
  let c256_i32 : BitVec 32 := 256#32
  let c0_i32_11 : BitVec 32 := 0#32
  let v30 : BitVec 1 := Scalar.cmpi .sgt c256_i32 c0_i32_11
  let v31 : BitVec 32 := Scalar.extui v30
  let c0_i32_12 : BitVec 32 := 0#32
  let v32 : BitVec 1 := Scalar.cmpi .slt c256_i32 c0_i32_12
  let v33 : BitVec 32 := Scalar.extui v32
  let v34 : BitVec 32 := Scalar.subi v31 v33
  let v35 : BitVec 1 := Scalar.cmpi .ne v29 v34
  let v36 : BitVec 32 := Scalar.remsi v23 c256_i32
  let c0_i32_13 : BitVec 32 := 0#32
  let v37 : BitVec 1 := Scalar.cmpi .ne v36 c0_i32_13
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let v61 : BitVec 32 := Scalar.subi v40 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg10 : BitVec 32 := Scf.iv v65 c1_i32_27 k0_t2
  let c256_i32_54 : BitVec 32 := 256#32
  let v153 : BitVec 32 := Scalar.muli arg10 c256_i32_54
  v153
def k0_off2 (i : grid0.Coords) (k0_t2 : Fin (k0_t2_loop i).trips) : Fin 2 → Nat :=
  let c0_i32_24 : BitVec 32 := 0#32
  let arg2 : BitVec 32 := BitVec.ofNat 32 (i 2).val
  let c128_i32_9 : BitVec 32 := 128#32
  let v23 : BitVec 32 := Scalar.muli arg2 c128_i32_9
  let c0_i32 : BitVec 32 := 0#32
  let v25 : BitVec 1 := Scalar.cmpi .sgt v23 c0_i32
  let v26 : BitVec 32 := Scalar.extui v25
  let c0_i32_10 : BitVec 32 := 0#32
  let v27 : BitVec 1 := Scalar.cmpi .slt v23 c0_i32_10
  let v28 : BitVec 32 := Scalar.extui v27
  let v29 : BitVec 32 := Scalar.subi v26 v28
  let c256_i32 : BitVec 32 := 256#32
  let c0_i32_11 : BitVec 32 := 0#32
  let v30 : BitVec 1 := Scalar.cmpi .sgt c256_i32 c0_i32_11
  let v31 : BitVec 32 := Scalar.extui v30
  let c0_i32_12 : BitVec 32 := 0#32
  let v32 : BitVec 1 := Scalar.cmpi .slt c256_i32 c0_i32_12
  let v33 : BitVec 32 := Scalar.extui v32
  let v34 : BitVec 32 := Scalar.subi v31 v33
  let v35 : BitVec 1 := Scalar.cmpi .ne v29 v34
  let v36 : BitVec 32 := Scalar.remsi v23 c256_i32
  let c0_i32_13 : BitVec 32 := 0#32
  let v37 : BitVec 1 := Scalar.cmpi .ne v36 c0_i32_13
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let v61 : BitVec 32 := Scalar.subi v40 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg10 : BitVec 32 := Scf.iv v65 c1_i32_27 k0_t2
  let c256_i32_54 : BitVec 32 := 256#32
  let v153 : BitVec 32 := Scalar.muli arg10 c256_i32_54
  let v154 : BitVec 32 := v153
  let v155 : Index := Scalar.indexCast v154
  let c0_55 : Index := 0#32
  ![v155.toNat, 0]
def k0_mult3 (i : grid0.Coords) : BitVec 32 :=
  let arg2 : BitVec 32 := BitVec.ofNat 32 (i 2).val
  let c1_i32_14 : BitVec 32 := 1#32
  let v41 : BitVec 32 := Scalar.addi arg2 c1_i32_14
  let c128_i32_15 : BitVec 32 := 128#32
  let v42 : BitVec 32 := Scalar.muli v41 c128_i32_15
  let c1_i32_16 : BitVec 32 := 1#32
  let v43 : BitVec 32 := Scalar.subi v42 c1_i32_16
  let c0_i32_18 : BitVec 32 := 0#32
  let v45 : BitVec 1 := Scalar.cmpi .sgt v43 c0_i32_18
  let v46 : BitVec 32 := Scalar.extui v45
  let c0_i32_19 : BitVec 32 := 0#32
  let v47 : BitVec 1 := Scalar.cmpi .slt v43 c0_i32_19
  let v48 : BitVec 32 := Scalar.extui v47
  let v49 : BitVec 32 := Scalar.subi v46 v48
  let c256_i32_17 : BitVec 32 := 256#32
  let c0_i32_20 : BitVec 32 := 0#32
  let v50 : BitVec 1 := Scalar.cmpi .sgt c256_i32_17 c0_i32_20
  let v51 : BitVec 32 := Scalar.extui v50
  let c0_i32_21 : BitVec 32 := 0#32
  let v52 : BitVec 1 := Scalar.cmpi .slt c256_i32_17 c0_i32_21
  let v53 : BitVec 32 := Scalar.extui v52
  let v54 : BitVec 32 := Scalar.subi v51 v53
  let v55 : BitVec 1 := Scalar.cmpi .ne v49 v54
  let v56 : BitVec 32 := Scalar.remsi v43 c256_i32_17
  let c0_i32_22 : BitVec 32 := 0#32
  let v57 : BitVec 1 := Scalar.cmpi .ne v56 c0_i32_22
  let v58 : BitVec 1 := Scalar.andi v55 v57
  let v44 : BitVec 32 := Scalar.divsi v43 c256_i32_17
  let c1_i32_23 : BitVec 32 := 1#32
  let v59 : BitVec 32 := Scalar.subi v44 c1_i32_23
  let v60 : BitVec 32 := Scalar.select v58 v59 v44
  let c0_i32_28 : BitVec 32 := 0#32
  let v68 : BitVec 32 := Scalar.subi v60 c0_i32_28
  let c256_i32_29 : BitVec 32 := 256#32
  let v69 : BitVec 32 := Scalar.muli v68 c256_i32_29
  v69
def k0_off3 (i : grid0.Coords) : Fin 2 → Nat :=
  let arg2 : BitVec 32 := BitVec.ofNat 32 (i 2).val
  let c1_i32_14 : BitVec 32 := 1#32
  let v41 : BitVec 32 := Scalar.addi arg2 c1_i32_14
  let c128_i32_15 : BitVec 32 := 128#32
  let v42 : BitVec 32 := Scalar.muli v41 c128_i32_15
  let c1_i32_16 : BitVec 32 := 1#32
  let v43 : BitVec 32 := Scalar.subi v42 c1_i32_16
  let c0_i32_18 : BitVec 32 := 0#32
  let v45 : BitVec 1 := Scalar.cmpi .sgt v43 c0_i32_18
  let v46 : BitVec 32 := Scalar.extui v45
  let c0_i32_19 : BitVec 32 := 0#32
  let v47 : BitVec 1 := Scalar.cmpi .slt v43 c0_i32_19
  let v48 : BitVec 32 := Scalar.extui v47
  let v49 : BitVec 32 := Scalar.subi v46 v48
  let c256_i32_17 : BitVec 32 := 256#32
  let c0_i32_20 : BitVec 32 := 0#32
  let v50 : BitVec 1 := Scalar.cmpi .sgt c256_i32_17 c0_i32_20
  let v51 : BitVec 32 := Scalar.extui v50
  let c0_i32_21 : BitVec 32 := 0#32
  let v52 : BitVec 1 := Scalar.cmpi .slt c256_i32_17 c0_i32_21
  let v53 : BitVec 32 := Scalar.extui v52
  let v54 : BitVec 32 := Scalar.subi v51 v53
  let v55 : BitVec 1 := Scalar.cmpi .ne v49 v54
  let v56 : BitVec 32 := Scalar.remsi v43 c256_i32_17
  let c0_i32_22 : BitVec 32 := 0#32
  let v57 : BitVec 1 := Scalar.cmpi .ne v56 c0_i32_22
  let v58 : BitVec 1 := Scalar.andi v55 v57
  let v44 : BitVec 32 := Scalar.divsi v43 c256_i32_17
  let c1_i32_23 : BitVec 32 := 1#32
  let v59 : BitVec 32 := Scalar.subi v44 c1_i32_23
  let v60 : BitVec 32 := Scalar.select v58 v59 v44
  let c0_i32_28 : BitVec 32 := 0#32
  let v68 : BitVec 32 := Scalar.subi v60 c0_i32_28
  let c256_i32_29 : BitVec 32 := 256#32
  let v69 : BitVec 32 := Scalar.muli v68 c256_i32_29
  let v70 : BitVec 32 := v69
  let v71 : Index := Scalar.indexCast v70
  let c0_30 : Index := 0#32
  ![v71.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x6144 : Shape := ⟨2, ![32768, 6144]⟩
abbrev S4x64 : Shape := ⟨2, ![4, 64]⟩
abbrev S128 : Shape := ⟨1, ![128]⟩
abbrev S16x2048x6144 : Shape := ⟨3, ![16, 2048, 6144]⟩
abbrev S16x2048x1024 : Shape := ⟨3, ![16, 2048, 1024]⟩
abbrev S16x2048x8x2x64 : Shape := ⟨5, ![16, 2048, 8, 2, 64]⟩
abbrev S16x8x2x2048x64 : Shape := ⟨5, ![16, 8, 2, 2048, 64]⟩
abbrev S16x2048x8x128 : Shape := ⟨4, ![16, 2048, 8, 128]⟩
abbrev S16x8x2048x128 : Shape := ⟨4, ![16, 8, 2048, 128]⟩
abbrev S1x64 : Shape := ⟨2, ![1, 64]⟩
abbrev S64 : Shape := ⟨1, ![64]⟩
abbrev S_ : Shape := ⟨0, ![]⟩
abbrev S8 : Shape := ⟨1, ![8]⟩
abbrev S1x8x1x1x1 : Shape := ⟨5, ![1, 8, 1, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x2x2048x2048 : Shape := ⟨5, ![16, 8, 2, 2048, 2048]⟩
abbrev S1x1x1x2048x2048 : Shape := ⟨5, ![1, 1, 1, 2048, 2048]⟩
abbrev S1x8x1x2048x2048 : Shape := ⟨5, ![1, 8, 1, 2048, 2048]⟩
abbrev S16x8x2x2048 : Shape := ⟨4, ![16, 8, 2, 2048]⟩
abbrev S16x8x2x2048x1 : Shape := ⟨5, ![16, 8, 2, 2048, 1]⟩
abbrev S16x8x1x2048x2048 : Shape := ⟨5, ![16, 8, 1, 2048, 2048]⟩
abbrev S16x8x2048x2048 : Shape := ⟨4, ![16, 8, 2048, 2048]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S32768x1024 : Shape := ⟨2, ![32768, 1024]⟩

abbrev nBuf : Space → Nat
  | .hbm => 116
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S4x64, .f32⟩
  | .hbm, ⟨2, _⟩ => ⟨S128, .f32⟩
  | .hbm, ⟨3, _⟩ => ⟨S32768x6144, .f32⟩
  | .hbm, ⟨4, _⟩ => ⟨S16x2048x6144, .f32⟩
  | .hbm, ⟨5, _⟩ => ⟨S16x2048x1024, .f32⟩
  | .hbm, ⟨6, _⟩ => ⟨S16x2048x8x2x64, .f32⟩
  | .hbm, ⟨7, _⟩ => ⟨S16x8x2x2048x64, .f32⟩
  | .hbm, ⟨8, _⟩ => ⟨S16x2048x1024, .f32⟩
  | .hbm, ⟨9, _⟩ => ⟨S16x2048x8x2x64, .f32⟩
  | .hbm, ⟨10, _⟩ => ⟨S16x8x2x2048x64, .f32⟩
  | .hbm, ⟨11, _⟩ => ⟨S16x2048x1024, .f32⟩
  | .hbm, ⟨12, _⟩ => ⟨S16x2048x8x128, .f32⟩
  | .hbm, ⟨13, _⟩ => ⟨S16x8x2048x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S1x8x1x1x1, .f32⟩
  | .hbm, ⟨47, _⟩ => ⟨S2048, .i32⟩
  | .hbm, ⟨48, _⟩ => ⟨S2048x1, .i32⟩
  | .hbm, ⟨49, _⟩ => ⟨S1x2048, .i32⟩
  | .hbm, ⟨50, _⟩ => ⟨S2048x2048, .i32⟩
  | .hbm, ⟨51, _⟩ => ⟨S2048x2048, .i32⟩
  | .hbm, ⟨52, _⟩ => ⟨S2048x2048, .i32⟩
  | .hbm, ⟨53, _⟩ => ⟨S16x8x2x2048x2048, .f32⟩
  | .hbm, ⟨54, _⟩ => ⟨S_, .f32⟩
  | .hbm, ⟨55, _⟩ => ⟨S16x8x2x2048x2048, .f32⟩
  | .hbm, ⟨56, _⟩ => ⟨S16x8x2x2048x2048, .f32⟩
  | .hbm, ⟨57, _⟩ => ⟨S2048x2048, .f32⟩
  | .hbm, ⟨58, _⟩ => ⟨S1x1x1x2048x2048, .f32⟩
  | .hbm, ⟨59, _⟩ => ⟨S1x8x1x2048x2048, .f32⟩
  | .hbm, ⟨60, _⟩ => ⟨S1x8x1x2048x2048, .f32⟩
  | .hbm, ⟨61, _⟩ => ⟨S1x8x1x2048x2048, .f32⟩
  | .hbm, ⟨62, _⟩ => ⟨S16x8x2x2048x2048, .f32⟩
  | .hbm, ⟨63, _⟩ => ⟨S16x8x2x2048x2048, .f32⟩
  | .hbm, ⟨64, _⟩ => ⟨S_, .i32⟩
  | .hbm, ⟨65, _⟩ => ⟨S2048x2048, .i32⟩
  | .hbm, ⟨66, _⟩ => ⟨S2048x2048, .i1⟩
  | .hbm, ⟨67, _⟩ => ⟨S_, .f32⟩
  | .hbm, ⟨68, _⟩ => ⟨S_, .f32⟩
  | .hbm, ⟨69, _⟩ => ⟨S16x8x2x2048x2048, .i1⟩
  | .hbm, ⟨70, _⟩ => ⟨S16x8x2x2048x2048, .f32⟩
  | .hbm, ⟨71, _⟩ => ⟨S16x8x2x2048x2048, .f32⟩
  | .hbm, ⟨72, _⟩ => ⟨S_, .f32⟩
  | .hbm, ⟨73, _⟩ => ⟨S16x8x2x2048, .f32⟩
  | .hbm, ⟨74, _⟩ => ⟨S_, .f32⟩
  | .hbm, ⟨75, _⟩ => ⟨S16x8x2x2048, .f32⟩
  | .hbm, ⟨76, _⟩ => ⟨S16x8x2x2048, .f32⟩
  | .hbm, ⟨77, _⟩ => ⟨S16x8x2x2048x1, .f32⟩
  | .hbm, ⟨78, _⟩ => ⟨S16x8x2x2048x2048, .f32⟩
  | .hbm, ⟨79, _⟩ => ⟨S16x8x2x2048x2048, .f32⟩
  | .hbm, ⟨80, _⟩ => ⟨S16x8x2x2048x2048, .f32⟩
  | .hbm, ⟨81, _⟩ => ⟨S_, .f32⟩
  | .hbm, ⟨82, _⟩ => ⟨S16x8x2x2048, .f32⟩
  | .hbm, ⟨83, _⟩ => ⟨S16x8x2x2048x1, .f32⟩
  | .hbm, ⟨84, _⟩ => ⟨S16x8x2x2048x2048, .f32⟩
  | .hbm, ⟨85, _⟩ => ⟨S16x8x2x2048x2048, .f32⟩
  | .hbm, ⟨86, _⟩ => ⟨S16x8x1x2048x2048, .f32⟩
  | .hbm, ⟨87, _⟩ => ⟨S16x8x2048x2048, .f32⟩
  | .hbm, ⟨88, _⟩ => ⟨S16x8x1x2048x2048, .f32⟩
  | .hbm, ⟨89, _⟩ => ⟨S16x8x2048x2048, .f32⟩
  | .hbm, ⟨90, _⟩ => ⟨S16x8x2048x2048, .f32⟩
  | .hbm, ⟨91, _⟩ => ⟨S16x8x2048x2048, .f32⟩
  | .hbm, ⟨92, _⟩ => ⟨S16x8x2048x2048, .f32⟩
  | .hbm, ⟨93, _⟩ => ⟨S16x8x2048x128, .f32⟩
  | .hbm, ⟨94, _⟩ => ⟨S16x2048x8x128, .f32⟩
  | .hbm, ⟨95, _⟩ => ⟨S16x2048x8x128, .f32⟩
  | .hbm, ⟨96, _⟩ => ⟨S_, .f32⟩
  | .hbm, ⟨97, _⟩ => ⟨S16x2048x8, .f32⟩
  | .hbm, ⟨98, _⟩ => ⟨S16x2048x8x1, .f32⟩
  | .hbm, ⟨99, _⟩ => ⟨S_, .f32⟩
  | .hbm, ⟨100, _⟩ => ⟨S16x2048x8x1, .f32⟩
  | .hbm, ⟨101, _⟩ => ⟨S16x2048x8x1, .f32⟩
  | .hbm, ⟨102, _⟩ => ⟨S_, .f32⟩
  | .hbm, ⟨103, _⟩ => ⟨S16x2048x8x1, .f32⟩
  | .hbm, ⟨104, _⟩ => ⟨S16x2048x8x1, .f32⟩
  | .hbm, ⟨105, _⟩ => ⟨S16x2048x8x1, .f32⟩
  | .hbm, ⟨106, _⟩ => ⟨S16x2048x8x128, .f32⟩
  | .hbm, ⟨107, _⟩ => ⟨S16x2048x8x128, .f32⟩
  | .hbm, ⟨108, _⟩ => ⟨S1x1x1x128, .f32⟩
  | .hbm, ⟨109, _⟩ => ⟨S16x2048x8x128, .f32⟩
  | .hbm, ⟨110, _⟩ => ⟨S16x2048x8x128, .f32⟩
  | .hbm, ⟨111, _⟩ => ⟨S_, .f32⟩
  | .hbm, ⟨112, _⟩ => ⟨S16x2048x8x128, .f32⟩
  | .hbm, ⟨113, _⟩ => ⟨S16x2048x8x128, .f32⟩
  | .hbm, ⟨114, _⟩ => ⟨S32768x1024, .f32⟩
  | .hbm, ⟨115, _⟩ => ⟨S32768x1024, .bf16⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_v78 : Ref sig .tc := ⟨.hbm, 98, rfl⟩
abbrev main_cst_12 : Ref sig .tc := ⟨.hbm, 99, rfl⟩
abbrev main_v79 : Ref sig .tc := ⟨.hbm, 100, rfl⟩
abbrev main_v80 : Ref sig .tc := ⟨.hbm, 101, rfl⟩
abbrev main_cst_13 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_14 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩

abbrev nD : Nat := 1
abbrev τ : Topo := Topo.v7x

variable {F : FTy → Type} [FloatOps F]
-- ==== InProj.lean ====
abbrev S32768x2048 : Shape := ⟨2, ![32768, 2048]⟩
abbrev S2048 : Shape := ⟨1, ![2048]⟩
abbrev S16x12288 : Shape := ⟨2, ![16, 12288]⟩
abbrev S2048x6144 : Shape := ⟨2, ![2048, 6144]⟩
abbrev S16x6x1x2048 : Shape := ⟨4, ![16, 6, 1, 2048]⟩
abbrev S1x2048 : Shape := ⟨2, ![1, 2048]⟩
abbrev S32768x6144 : Shape := ⟨2, ![32768, 6144]⟩
abbrev S1024x2048 : Shape := ⟨2, ![1024, 2048]⟩
abbrev S1x1x1x2048 : Shape := ⟨4, ![1, 1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S16x12288, .f32⟩
  | .hbm, ⟨3, _⟩ => ⟨S2048x6144, .f32⟩
  | .hbm, ⟨4, _⟩ => ⟨S16x6x1x2048, .f32⟩
  | .hbm, ⟨5, _⟩ => ⟨S2048x6144, .bf16⟩
  | .hbm, ⟨6, _⟩ => ⟨S1x2048, .f32⟩
  | .hbm, ⟨7, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjReferenceIdeal.lean ====
abbrev S32768x2048 : Shape := ⟨2, ![32768, 2048]⟩
abbrev S2048 : Shape := ⟨1, ![2048]⟩
abbrev S16x12288 : Shape := ⟨2, ![16, 12288]⟩
abbrev S2048x6144 : Shape := ⟨2, ![2048, 6144]⟩
abbrev S16x1x12288 : Shape := ⟨3, ![16, 1, 12288]⟩
abbrev S16x1x2048 : Shape := ⟨3, ![16, 1, 2048]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x6144 : Shape := ⟨3, ![16, 2048, 6144]⟩
abbrev S32768x6144 : Shape := ⟨2, ![32768, 6144]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S16x12288, .f32⟩
  | .hbm, ⟨3, _⟩ => ⟨S2048x6144, .f32⟩
  | .hbm, ⟨4, _⟩ => ⟨S16x1x12288, .f32⟩
  | .hbm, ⟨5, _⟩ => ⟨S16x1x2048, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x2048, .f32⟩
  | .hbm, ⟨24, _⟩ => ⟨S16x2048x2048, .f32⟩
  | .hbm, ⟨25, _⟩ => ⟨S1x1x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x1x2048, .f32⟩
  | .hbm, ⟨30, _⟩ => ⟨S16x1x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x6144, .f32⟩
  | .hbm, ⟨36, _⟩ => ⟨S32768x6144, .f32⟩
  | .hbm, ⟨37, _⟩ => ⟨S32768x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== OutProj.lean ====
abbrev S32768x1024 : Shape := ⟨2, ![32768, 1024]⟩
abbrev S2048x2048 : Shape := ⟨2, ![2048, 2048]⟩
abbrev S32768x2048 : Shape := ⟨2, ![32768, 2048]⟩
abbrev S16x12288 : Shape := ⟨2, ![16, 12288]⟩
abbrev S16x6x1x2048 : Shape := ⟨4, ![16, 6, 1, 2048]⟩
abbrev S1024x1024 : Shape := ⟨2, ![1024, 1024]⟩
abbrev S1024x512 : Shape := ⟨2, ![1024, 512]⟩
abbrev S1x1x1x512 : Shape := ⟨4, ![1, 1, 1, 512]⟩
abbrev S1x512 : Shape := ⟨2, ![1, 512]⟩

abbrev nBuf : Space → Nat
  | .hbm => 8
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S16x12288, .f32⟩
  | .hbm, ⟨5, _⟩ => ⟨S2048x2048, .bf16⟩
  | .hbm, ⟨6, _⟩ => ⟨S16x6x1x2048, .f32⟩
  | .hbm, ⟨7, _⟩ => ⟨S32768x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1x1x1x512, .f32⟩
  | .local _ .vmem, ⟨11, _⟩ => ⟨S1x1x1x512, .f32⟩
  | .local _ .vmem, ⟨12, _⟩ => ⟨S1024x512, .f32⟩
  | .local _ .vmem, ⟨13, _⟩ => ⟨S1024x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let c0_i32_6 : BitVec 32 := 0#32
  ![v16.toNat, c2_i32_4.toNat, c0_i32_5.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjReferenceIdeal.lean ====
abbrev S32768x1024 : Shape := ⟨2, ![32768, 1024]⟩
abbrev S2048x2048 : Shape := ⟨2, ![2048, 2048]⟩
abbrev S32768x2048 : Shape := ⟨2, ![32768, 2048]⟩
abbrev S16x12288 : Shape := ⟨2, ![16, 12288]⟩
abbrev S16x1x12288 : Shape := ⟨3, ![16, 1, 12288]⟩
abbrev S16x1x2048 : Shape := ⟨3, ![16, 1, 2048]⟩
abbrev S16x2048x2048 : Shape := ⟨3, ![16, 2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S16x12288, .f32⟩
  | .hbm, ⟨5, _⟩ => ⟨S16x1x12288, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S32768x1024, .f32⟩
  | .hbm, ⟨13, _⟩ => ⟨S32768x1024, .f32⟩
  | .hbm, ⟨14, _⟩ => ⟨S32768x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== TimeOut.lean ====
abbrev S32768x2048 : Shape := ⟨2, ![32768, 2048]⟩
abbrev S2048x2048 : Shape := ⟨2, ![2048, 2048]⟩
abbrev S16x12288 : Shape := ⟨2, ![16, 12288]⟩
abbrev S16x6x1x2048 : Shape := ⟨4, ![16, 6, 1, 2048]⟩
abbrev S1024x2048 : Shape := ⟨2, ![1024, 2048]⟩
abbrev S2048x512 : Shape := ⟨2, ![2048, 512]⟩
abbrev S1024x512 : Shape := ⟨2, ![1024, 512]⟩
abbrev S1x1x1x512 : Shape := ⟨4, ![1, 1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S16x12288, .f32⟩
  | .hbm, ⟨4, _⟩ => ⟨S2048x2048, .bf16⟩
  | .hbm, ⟨5, _⟩ => ⟨S16x6x1x2048, .f32⟩
  | .hbm, ⟨6, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let c0_i32_6 : BitVec 32 := 0#32
  ![v16.toNat, c2_i32_4.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== TimeOutReferenceIdeal.lean ====
abbrev S32768x2048 : Shape := ⟨2, ![32768, 2048]⟩
abbrev S2048x2048 : Shape := ⟨2, ![2048, 2048]⟩
abbrev S16x12288 : Shape := ⟨2, ![16, 12288]⟩
abbrev S16x1x12288 : Shape := ⟨3, ![16, 1, 12288]⟩
abbrev S16x1x2048 : Shape := ⟨3, ![16, 1, 2048]⟩
abbrev S16x2048x2048 : Shape := ⟨3, ![16, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S16x12288, .f32⟩
  | .hbm, ⟨4, _⟩ => ⟨S16x1x12288, .f32⟩
  | .hbm, ⟨5, _⟩ => ⟨S16x1x2048, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S32768x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Experts.lean ====
abbrev S69632x2048 : Shape := ⟨2, ![69632, 2048]⟩
abbrev S272 : Shape := ⟨1, ![272]⟩
abbrev S1 : Shape := ⟨1, ![1]⟩
abbrev S16x2048x1024 : Shape := ⟨3, ![16, 2048, 1024]⟩
abbrev S16x1024x2048 : Shape := ⟨3, ![16, 1024, 2048]⟩
abbrev S256x2048 : Shape := ⟨2, ![256, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 5
  | .vmem => 10
  | .smem => 2
  | _ => 0

abbrev bufTy : (tb : Table) → Fin (tcTables nBuf tb) → BufTy
  | .hbm, ⟨0, _⟩ => ⟨S69632x2048, .f32⟩
  | .hbm, ⟨1, _⟩ => ⟨S16x2048x1024, .f32⟩
  | .hbm, ⟨2, _⟩ => ⟨S16x2048x1024, .f32⟩
  | .hbm, ⟨3, _⟩ => ⟨S16x1024x2048, .f32⟩
  | .hbm, ⟨4, _⟩ => ⟨S69632x2048, .f32⟩
  | .local _ .vmem, ⟨0, _⟩ => ⟨S256x2048, .f32⟩
  | .local _ .vmem, ⟨1, _⟩ => ⟨S256x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1024x2048, .f32⟩
  | .local _ .vmem, ⟨7, _⟩ => ⟨S1x1024x2048, .f32⟩
  | .local _ .vmem, ⟨8, _⟩ => ⟨S256x2048, .f32⟩
  | .local _ .vmem, ⟨9, _⟩ => ⟨S256x2048, .f32⟩
  | .local _ .smem, ⟨0, _⟩ => ⟨S272, .i32⟩
  | .local _ .smem, ⟨1, _⟩ => ⟨S1, .i32⟩
  | _, _ => ⟨S69632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![272], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S69632x2048 : Shape := ⟨2, ![69632, 2048]⟩
abbrev S272 : Shape := ⟨1, ![272]⟩
abbrev S1 : Shape := ⟨1, ![1]⟩
abbrev S16x2048x1024 : Shape := ⟨3, ![16, 2048, 1024]⟩
abbrev S16x1024x2048 : Shape := ⟨3, ![16, 1024, 2048]⟩
abbrev S272x256x2048 : Shape := ⟨3, ![272, 256, 2048]⟩
abbrev S_ : Shape := ⟨0, ![]⟩
abbrev S272x1 : Shape := ⟨2, ![272, 1]⟩
abbrev S272x2048x1024 : Shape := ⟨3, ![272, 2048, 1024]⟩
abbrev S272x256x1024 : Shape := ⟨3, ![272, 256, 1024]⟩
abbrev S272x1024x2048 : Shape := ⟨3, ![272, 1024, 2048]⟩

abbrev nBuf : Space → Nat
  | .hbm => 48
  | .vmem => 0
  | .smem => 0
  | _ => 0

abbrev bufTy : (tb : Table) → Fin (tcTables nBuf tb) → BufTy
  | .hbm, ⟨0, _⟩ => ⟨S69632x2048, .f32⟩
  | .hbm, ⟨1, _⟩ => ⟨S272, .i32⟩
  | .hbm, ⟨2, _⟩ => ⟨S1, .i32⟩
  | .hbm, ⟨3, _⟩ => ⟨S16x2048x1024, .f32⟩
  | .hbm, ⟨4, _⟩ => ⟨S16x2048x1024, .f32⟩
  | .hbm, ⟨5, _⟩ => ⟨S16x1024x2048, .f32⟩
  | .hbm, ⟨6, _⟩ => ⟨S272x256x2048, .f32⟩
  | .hbm, ⟨7, _⟩ => ⟨S_, .i32⟩
  | .hbm, ⟨8, _⟩ => ⟨S272, .i32⟩
  | .hbm, ⟨9, _⟩ => ⟨S272, .i1⟩
  | .hbm, ⟨10, _⟩ => ⟨S_, .i32⟩
  | .hbm, ⟨11, _⟩ => ⟨S272, .i32⟩
  | .hbm, ⟨12, _⟩ => ⟨S272, .i32⟩
  | .hbm, ⟨13, _⟩ => ⟨S272, .i32⟩
  | .hbm, ⟨14, _⟩ => ⟨S272x1, .i32⟩
  | .hbm, ⟨15, _⟩ => ⟨S272x2048x1024, .f32⟩
  | .hbm, ⟨16, _⟩ => ⟨S272x256x1024, .f32⟩
  | .hbm, ⟨17, _⟩ => ⟨S_, .i32⟩
  | .hbm, ⟨18, _⟩ => ⟨S272, .i32⟩
  | .hbm, ⟨19, _⟩ => ⟨S272, .i1⟩
  | .hbm, ⟨20, _⟩ => ⟨S_, .i32⟩
  | .hbm, ⟨21, _⟩ => ⟨S272, .i32⟩
  | .hbm, ⟨22, _⟩ => ⟨S272, .i32⟩
  | .hbm, ⟨23, _⟩ => ⟨S272, .i32⟩
  | .hbm, ⟨24, _⟩ => ⟨S272x1, .i32⟩
  | .hbm, ⟨25, _⟩ => ⟨S272x2048x1024, .f32⟩
  | .hbm, ⟨26, _⟩ => ⟨S272x256x1024, .f32⟩
  | .hbm, ⟨27, _⟩ => ⟨S272x256x1024, .f32⟩
  | .hbm, ⟨28, _⟩ => ⟨S272x256x1024, .f32⟩
  | .hbm, ⟨29, _⟩ => ⟨S_, .f32⟩
  | .hbm, ⟨30, _⟩ => ⟨S272x256x1024, .f32⟩
  | .hbm, ⟨31, _⟩ => ⟨S272x256x1024, .f32⟩
  | .hbm, ⟨32, _⟩ => ⟨S_, .f32⟩
  | .hbm, ⟨33, _⟩ => ⟨S272x256x1024, .f32⟩
  | .hbm, ⟨34, _⟩ => ⟨S272x256x1024, .f32⟩
  | .hbm, ⟨35, _⟩ => ⟨S272x256x1024, .f32⟩
  | .hbm, ⟨36, _⟩ => ⟨S272x256x1024, .f32⟩
  | .hbm, ⟨37, _⟩ => ⟨S_, .i32⟩
  | .hbm, ⟨38, _⟩ => ⟨S272, .i32⟩
  | .hbm, ⟨39, _⟩ => ⟨S272, .i1⟩
  | .hbm, ⟨40, _⟩ => ⟨S_, .i32⟩
  | .hbm, ⟨41, _⟩ => ⟨S272, .i32⟩
  | .hbm, ⟨42, _⟩ => ⟨S272, .i32⟩
  | .hbm, ⟨43, _⟩ => ⟨S272, .i32⟩
  | .hbm, ⟨44, _⟩ => ⟨S272x1, .i32⟩
  | .hbm, ⟨45, _⟩ => ⟨S272x1024x2048, .f32⟩
  | .hbm, ⟨46, _⟩ => ⟨S272x256x2048, .f32⟩
  | .hbm, ⟨47, _⟩ => ⟨S69632x2048, .f32⟩
  | _, _ => ⟨S69632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Modulation.lean ====
abbrev S16x2048 : Shape := ⟨2, ![16, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x16x12288 : Shape := ⟨3, ![4, 16, 12288]⟩
abbrev S1x2048x1536 : Shape := ⟨3, ![1, 2048, 1536]⟩
abbrev S1x1x1536 : Shape := ⟨3, ![1, 1, 1536]⟩
abbrev S1x16x1536 : Shape := ⟨3, ![1, 16, 1536]⟩
abbrev S2048x1536 : Shape := ⟨2, ![2048, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x16x12288, .f32⟩
  | .local _ .vmem, ⟨0, _⟩ => ⟨S16x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S16x2048 : Shape := ⟨2, ![16, 2048]⟩
abbrev S4x2048x12288 : Shape := ⟨3, ![4, 2048, 12288]⟩
abbrev S4x12288 : Shape := ⟨2, ![4, 12288]⟩
abbrev S_ : Shape := ⟨0, ![]⟩
abbrev S4x12288x16 : Shape := ⟨3, ![4, 12288, 16]⟩
abbrev S4x16x12288 : Shape := ⟨3, ![4, 16, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S4x12288x16, .f32⟩
  | .hbm, ⟨13, _⟩ => ⟨S4x16x12288, .f32⟩
  | .hbm, ⟨14, _⟩ => ⟨S4x1x12288, .f32⟩
  | .hbm, ⟨15, _⟩ => ⟨S4x16x12288, .f32⟩
  | .hbm, ⟨16, _⟩ => ⟨S4x16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Route.lean ====
abbrev S32768x2048 : Shape := ⟨2, ![32768, 2048]⟩
abbrev S2048 : Shape := ⟨1, ![2048]⟩
abbrev S16x12288 : Shape := ⟨2, ![16, 12288]⟩
abbrev S2048x16 : Shape := ⟨2, ![2048, 16]⟩
abbrev S16 : Shape := ⟨1, ![16]⟩
abbrev S16x6x1x2048 : Shape := ⟨4, ![16, 6, 1, 2048]⟩
abbrev S1x2048 : Shape := ⟨2, ![1, 2048]⟩
abbrev S16x2048 : Shape := ⟨2, ![16, 2048]⟩
abbrev S16x1 : Shape := ⟨2, ![16, 1]⟩
abbrev S2x32768 : Shape := ⟨2, ![2, 32768]⟩
abbrev S16x128 : Shape := ⟨2, ![16, 128]⟩
abbrev S512x2048 : Shape := ⟨2, ![512, 2048]⟩
abbrev S1x1x1x2048 : Shape := ⟨4, ![1, 1, 1, 2048]⟩
abbrev S2x512 : Shape := ⟨2, ![2, 512]⟩
abbrev S512x512 : Shape := ⟨2, ![512, 512]⟩
abbrev S512 : Shape := ⟨1, ![512]⟩
abbrev S512x1 : Shape := ⟨2, ![512, 1]⟩
abbrev S16x512 : Shape := ⟨2, ![16, 512]⟩
abbrev S1x512 : Shape := ⟨2, ![1, 512]⟩

abbrev nBuf : Space → Nat
  | .hbm => 14
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S16x12288, .f32⟩
  | .hbm, ⟨3, _⟩ => ⟨S2048x16, .f32⟩
  | .hbm, ⟨4, _⟩ => ⟨S16, .f32⟩
  | .hbm, ⟨5, _⟩ => ⟨S16x6x1x2048, .f32⟩
  | .hbm, ⟨6, _⟩ => ⟨S1x2048, .f32⟩
  | .hbm, ⟨7, _⟩ => ⟨S16x2048, .f32⟩
  | .hbm, ⟨8, _⟩ => ⟨S16x1, .f32⟩
  | .hbm, ⟨9, _⟩ => ⟨S32768x2048, .f32⟩
  | .hbm, ⟨10, _⟩ => ⟨S2x32768, .i32⟩
  | .hbm, ⟨11, _⟩ => ⟨S2x32768, .f32⟩
  | .hbm, ⟨12, _⟩ => ⟨S2x32768, .i32⟩
  | .hbm, ⟨13, _⟩ => ⟨S16x128, .i32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S16x2048, .f32⟩
  | .local _ .vmem, ⟨8, _⟩ => ⟨S16x1, .f32⟩
  | .local _ .vmem, ⟨9, _⟩ => ⟨S512x2048, .f32⟩
  | .local _ .vmem, ⟨10, _⟩ => ⟨S512x2048, .f32⟩
  | .local _ .vmem, ⟨11, _⟩ => ⟨S2x512, .i32⟩
  | .local _ .vmem, ⟨12, _⟩ => ⟨S2x512, .i32⟩
  | .local _ .vmem, ⟨13, _⟩ => ⟨S2x512, .f32⟩
  | .local _ .vmem, ⟨14, _⟩ => ⟨S2x512, .f32⟩
  | .local _ .vmem, ⟨15, _⟩ => ⟨S2x512, .i32⟩
  | .local _ .vmem, ⟨16, _⟩ => ⟨S2x512, .i32⟩
  | .local _ .vmem, ⟨17, _⟩ => ⟨S16x128, .i32⟩
  | .local _ .vmem, ⟨18, _⟩ => ⟨S16x1, .f32⟩
  | .local _ .vmem, ⟨19, _⟩ => ⟨S512x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let c0_i32_6 : BitVec 32 := 0#32
  let c0_i32_7 : BitVec 32 := 0#32
  ![v16.toNat, c4_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RouteReferenceIdeal.lean ====
abbrev S32768x2048 : Shape := ⟨2, ![32768, 2048]⟩
abbrev S2048 : Shape := ⟨1, ![2048]⟩
abbrev S16x12288 : Shape := ⟨2, ![16, 12288]⟩
abbrev S2048x16 : Shape := ⟨2, ![2048, 16]⟩
abbrev S16 : Shape := ⟨1, ![16]⟩
abbrev S16x1x12288 : Shape := ⟨3, ![16, 1, 12288]⟩
abbrev S16x1x2048 : Shape := ⟨3, ![16, 1, 2048]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S16x12288, .f32⟩
  | .hbm, ⟨3, _⟩ => ⟨S2048x16, .f32⟩
  | .hbm, ⟨4, _⟩ => ⟨S16, .f32⟩
  | .hbm, ⟨5, _⟩ => ⟨S16x1x12288, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x2048, .f32⟩
  | .hbm, ⟨25, _⟩ => ⟨S16x2048x2048, .f32⟩
  | .hbm, ⟨26, _⟩ => ⟨S1x1x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x1x2048, .f32⟩
  | .hbm, ⟨31, _⟩ => ⟨S16x1x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.DiffWords.lean ====
/-
  The integer words of the attention kernel, read as integers: a query's position less a key's.
-/
module

public import proofs.«01_k».proof.Proof.Gen.KernelIdeal.Value
public import Idealize.ShloMosaic.Lib.WordCmp

@[expose] public section

noncomputable section

namespace Cert.KernelIdeal.DiffWords

open Cert.KernelIdeal Cert.KernelIdeal.Gen Idealize.ShloMosaic

/-- A word that holds an integer between -4096 and 4096 reads back as it. -/
theorem toInt_small (z : ℤ) (h : -4096 ≤ z ∧ z < 4096) : (BitVec.ofInt 32 z).toInt = z := by
  rw [BitVec.toInt_ofInt]
  exact Int.bmod_eq_of_le (by simp; omega) (by simp; omega)

/-- The row inside its map: rows 128 … 255 are the second map's. -/
theorem row_word (r : Fin 256) :
    Scalar.select (IntOp.cmpi .sge (BitVec.ofNat 32 r.val) 128#32) (IntOp.subi (BitVec.ofNat 32 r.val) 128#32) (BitVec.ofNat 32 r.val)
      = BitVec.ofNat 32 (r.val % 128) := by
  revert r; decide +kernel

/-- Query position less key position, as the kernel computes it for query tile `q`, row `r`, key block `k`, key `j`. -/
theorem rel_word (r j : Fin 256) (q k : ℕ) (hq : q < 16) (hk : k < 8) :
    (IntOp.addi (IntOp.subi (BitVec.ofNat 32 (r.val % 128)) (BitVec.ofNat 32 j.val))
      (Scalar.subi (Scalar.muli (BitVec.ofNat 32 q) 128#32) (Scalar.muli (BitVec.ofNat 32 k) 256#32))).toInt
      = (q : ℤ) * 128 + ((r.val % 128 : ℕ) : ℤ) - (((256 * k + j.val : ℕ)) : ℤ) := by
  have hj := j.isLt
  have e : IntOp.addi (IntOp.subi (BitVec.ofNat 32 (r.val % 128)) (BitVec.ofNat 32 j.val))
      (Scalar.subi (Scalar.muli (BitVec.ofNat 32 q) 128#32) (Scalar.muli (BitVec.ofNat 32 k) 256#32))
      = BitVec.ofInt 32 ((q : ℤ) * 128 + ((r.val % 128 : ℕ) : ℤ) - (((256 * k + j.val : ℕ)) : ℤ)) := by
    show (BitVec.ofNat 32 (r.val % 128) - BitVec.ofNat 32 j.val) + (BitVec.ofNat 32 q * 128#32 - BitVec.ofNat 32 k * 256#32) = _
    have n : ∀ a : ℕ, BitVec.ofNat 32 a = BitVec.ofInt 32 (a : ℤ) := fun a => (BitVec.ofInt_natCast 32 a).symm
    rw [n, n, n, n, n, n, ← BitVec.ofInt_mul, ← BitVec.ofInt_mul, BitVec.sub_eq_add_neg, BitVec.sub_eq_add_neg, ← BitVec.ofInt_neg,
      ← BitVec.ofInt_neg, ← BitVec.ofInt_add, ← BitVec.ofInt_add, ← BitVec.ofInt_add]
    congr 1
    push_cast
    ring
  rw [e, toInt_small]
  omega

/-- The induction variable of trip `k`. -/
theorem iv_word (k : ℕ) : Scf.iv 0#32 1#32 k = BitVec.ofNat 32 k := by
  simp [Scf.iv]

/-- The bit a signed test "at least 0" leaves. -/
theorem sge_zero (w : BitVec 32) : IntOp.cmpi .sge w 0#32 = if 0 ≤ w.toInt then 1#1 else 0#1 := by
  simp only [IntOp.cmpi, BitVec.sle]
  by_cases h : 0 ≤ w.toInt <;> simp [h]

end Cert.KernelIdeal.DiffWords

end
-- ==== Proof.SoftmaxMath.lean ====
/-
  The softmax taken block by block, over the extended reals: no program here.

  A row's scores `z j` are reals, or `⊥` where a key is hidden. A pass over the keys in blocks keeps the largest score
  seen, the sum of the exponentials of the scores less that, and the sum of those exponentials times the values; when a
  block raises the largest score, both sums are multiplied by the exponential of the change. These lemmas say that one
  such step turns the sums over the keys seen into the sums over the keys seen and the block's, and that the
  quotient at the end is the weighted sum by the softmax, whose weights are real numbers.
-/
module

public import Idealize.ShloMosaic.PureOps.Ideal
public import Idealize.ShloMosaic.PureOps.Ideal.Laws

@[expose] public section

noncomputable section

namespace Cert.SoftmaxMath

open Idealize.ShloMosaic

/-- A sum of reals read as extended reals is the real sum. -/
theorem sum_coe {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- `⊥` less anything is `⊥`. -/
theorem bot_sub' (m : EReal) : (⊥ : EReal) - m = ⊥ := by rw [sub_eq_add_neg, EReal.bot_add]

/-- The exponential of a score less a bound on it (below `⊤`) is a nonnegative real. -/
theorem exp_sub_real {z m : EReal} (h : z ≤ m) (hm : m ≠ ⊤) : ∃ e : ℝ, 0 ≤ e ∧ Ideal.exp (z - m) = (e : EReal) := by
  induction z with
  | bot => exact ⟨0, le_refl _, by rw [bot_sub', Ideal.exp_bot]; rfl⟩
  | top => exact absurd (top_le_iff.mp h) hm
  | coe z =>
    induction m with
    | bot => exact absurd (le_bot_iff.mp h) (EReal.coe_ne_bot z)
    | top => exact absurd rfl hm
    | coe m => exact ⟨Real.exp (z - m), (Real.exp_pos _).le, by rw [← EReal.coe_sub, Ideal.exp_coe]⟩

/-- Raising the bound from `m` to `m'` multiplies each exponential by the exponential of `m - m'`. -/
theorem exp_rescale {z m m' : EReal} (h : z ≤ m) (h' : m ≤ m') (hm : m' ≠ ⊤) :
    Ideal.exp (m - m') * Ideal.exp (z - m) = Ideal.exp (z - m') := by
  induction z with
  | bot => rw [bot_sub', bot_sub', Ideal.exp_bot, mul_zero]
  | top => exact absurd (top_le_iff.mp (h.trans h')) hm
  | coe z =>
    induction m with
    | bot => exact absurd (le_bot_iff.mp h) (EReal.coe_ne_bot z)
    | top => exact absurd (top_le_iff.mp h') hm
    | coe m =>
      induction m' with
      | bot => exact absurd (le_bot_iff.mp h') (EReal.coe_ne_bot m)
      | top => exact absurd rfl hm
      | coe m' =>
        rw [← EReal.coe_sub, ← EReal.coe_sub, ← EReal.coe_sub, Ideal.exp_coe, Ideal.exp_coe, Ideal.exp_coe, ← EReal.coe_mul,
          ← Real.exp_add]
        congr 2
        ring

/-- Multiplying by the exponential of the change turns the weighted sum at the bound `m` into the one at `m'`. -/
theorem rescale_sum {ι : Type} (A : Finset ι) (z : ι → EReal) (w : ι → ℝ) {m m' : EReal} (hA : ∀ j ∈ A, z j ≤ m) (h' : m ≤ m')
    (hm : m' ≠ ⊤) :
    Ideal.exp (m - m') * ∑ j ∈ A, Ideal.exp (z j - m) * (w j : EReal) = ∑ j ∈ A, Ideal.exp (z j - m') * (w j : EReal) := by
  classical
  have hm0 : m ≠ ⊤ := fun e => hm (top_le_iff.mp (e ▸ h'))
  obtain ⟨a, -, ha⟩ := exp_sub_real h' hm
  have key : ∀ j, ∃ e : ℝ, j ∈ A → Ideal.exp (z j - m) = (e : EReal) := fun j => by
    by_cases hj : j ∈ A
    · obtain ⟨e, -, he⟩ := exp_sub_real (hA j hj) hm0
      exact ⟨e, fun _ => he⟩
    · exact ⟨0, fun h => absurd h hj⟩
  choose e he using key
  have h1 : ∑ j ∈ A, Ideal.exp (z j - m) * (w j : EReal) = ((∑ j ∈ A, e j * w j : ℝ) : EReal) := by
    rw [← sum_coe]
    exact Finset.sum_congr rfl fun j hj => by rw [he j hj, EReal.coe_mul]
  have h2 : ∑ j ∈ A, Ideal.exp (z j - m') * (w j : EReal) = ((∑ j ∈ A, a * (e j * w j) : ℝ) : EReal) := by
    rw [← sum_coe]
    exact Finset.sum_congr rfl fun j hj => by rw [← exp_rescale (hA j hj) h' hm, ha, he j hj, EReal.coe_mul, EReal.coe_mul, mul_assoc]
  rw [h1, h2, ha, ← EReal.coe_mul, Finset.mul_sum]

/-- One step of the weighted sum: the sum over the keys seen, rescaled, plus the block's own is the sum over both. -/
theorem step_weighted {ι : Type} [DecidableEq ι] (A B : Finset ι) (hd : Disjoint A B) (z : ι → EReal) (w : ι → ℝ) {m m' : EReal}
    (hA : ∀ j ∈ A, z j ≤ m) (h' : m ≤ m') (hm : m' ≠ ⊤) :
    Ideal.exp (m - m') * (∑ j ∈ A, Ideal.exp (z j - m) * (w j : EReal)) + ∑ j ∈ B, Ideal.exp (z j - m') * (w j : EReal)
      = ∑ j ∈ A ∪ B, Ideal.exp (z j - m') * (w j : EReal) := by
  rw [rescale_sum A z w hA h' hm, Finset.sum_union hd]

/-- One step of the plain sum of exponentials. -/
theorem step_plain {ι : Type} [DecidableEq ι] (A B : Finset ι) (hd : Disjoint A B) (z : ι → EReal) {m m' : EReal}
    (hA : ∀ j ∈ A, z j ≤ m) (h' : m ≤ m') (hm : m' ≠ ⊤) :
    Ideal.exp (m - m') * (∑ j ∈ A, Ideal.exp (z j - m)) + ∑ j ∈ B, Ideal.exp (z j - m') = ∑ j ∈ A ∪ B, Ideal.exp (z j - m') := by
  have h := step_weighted A B hd z (fun _ => 1) hA h' hm
  simpa only [EReal.coe_one, mul_one] using h

/-- Keys that are hidden add nothing: a sum over a set outside which every score is `⊥` is the sum over all keys. -/
theorem sum_visible {ι : Type} [Fintype ι] (A : Finset ι) (z : ι → EReal) (w : ι → EReal) (m : EReal) (h : ∀ j, j ∉ A → z j = ⊥) :
    ∑ j ∈ A, Ideal.exp (z j - m) * w j = ∑ j, Ideal.exp (z j - m) * w j := by
  apply Finset.sum_subset (Finset.subset_univ A)
  intro j _ hj
  rw [h j hj, bot_sub', Ideal.exp_bot, zero_mul]

/-- … nor do they raise the largest score. -/
theorem sup_visible {ι : Type} [Fintype ι] (A : Finset ι) (z : ι → EReal) (h : ∀ j, j ∉ A → z j = ⊥) : A.sup z = Finset.univ.sup z := by
  apply le_antisymm (Finset.sup_mono (Finset.subset_univ A))
  refine Finset.sup_le fun j _ => ?_
  by_cases hj : j ∈ A
  · exact Finset.le_sup hj
  · rw [h j hj]; exact bot_le

/-- A fold of `max` from `⊥` is the supremum. -/
theorem fold_max_bot {ι : Type} (s : Finset ι) (z : ι → EReal) : Finset.fold max ⊥ z s = s.sup z := rfl

/-- The largest of finitely many scores below `⊤` is below `⊤`. -/
theorem sup_ne_top {ι : Type} (s : Finset ι) (z : ι → EReal) (h : ∀ j ∈ s, z j ≠ ⊤) : s.sup z ≠ ⊤ := by
  have : s.sup z < ⊤ := (Finset.sup_lt_iff bot_lt_top).mpr fun j hj => lt_top_iff_ne_top.mpr (h j hj)
  exact this.ne

/-- A row with a visible key: the exponentials are reals `e j`, their sum is a positive real, the softmax's weights are the reals
    `e j / ∑ e`. -/
theorem softmax_real {ι : Type} [Fintype ι] (z : ι → EReal) (h : ∀ j, z j ≠ ⊤) (j₀ : ι) (h₀ : z j₀ ≠ ⊥) :
    ∃ e : ι → ℝ, (∀ j, Ideal.exp (z j - Finset.univ.sup z) = (e j : EReal)) ∧ (∑ j, e j) ≠ 0 := by
  have hm := sup_ne_top Finset.univ z fun j _ => h j
  have hle : ∀ j, z j ≤ Finset.univ.sup z := fun j => Finset.le_sup (Finset.mem_univ j)
  choose e he0 he using fun j => exp_sub_real (hle j) hm
  refine ⟨e, he, ?_⟩
  have hpos : 0 < e j₀ := by
    have hz := hle j₀
    have hej := he j₀
    generalize Finset.univ.sup z = m at hz hej hm
    generalize z j₀ = x at hz hej h₀
    induction x with
    | bot => exact absurd rfl h₀
    | top => exact absurd (top_le_iff.mp hz) hm
    | coe x =>
      induction m with
      | bot => exact absurd (le_bot_iff.mp hz) (EReal.coe_ne_bot x)
      | top => exact absurd rfl hm
      | coe m =>
        rw [← EReal.coe_sub, Ideal.exp_coe] at hej
        rw [← EReal.coe_injective hej]
        exact Real.exp_pos _
  exact (Finset.sum_pos' (fun j _ => he0 j) ⟨j₀, Finset.mem_univ _, hpos⟩).ne'

/-- The two maps' difference: weighting the values by the difference of the two softmaxes, the second scaled by `c`, is the
    difference of the two quotients, the second scaled. -/
theorem diff_softmax {ι : Type} [Fintype ι] (e f w : ι → ℝ) (c : ℝ) (he : (∑ j, e j) ≠ 0) (hf : (∑ j, f j) ≠ 0) :
    ∑ j, (Ideal.div (e j : EReal) (∑ k, (e k : EReal)) - (c : EReal) * Ideal.div (f j : EReal) (∑ k, (f k : EReal))) * (w j : EReal)
      = Ideal.div (∑ j, (e j : EReal) * (w j : EReal)) (∑ k, (e k : EReal))
        - (c : EReal) * Ideal.div (∑ j, (f j : EReal) * (w j : EReal)) (∑ k, (f k : EReal)) := by
  simp only [sum_coe, Ideal.div_coe he, Ideal.div_coe hf, ← EReal.coe_mul, ← EReal.coe_sub]
  congr 1
  rw [Finset.sum_mul, Finset.sum_mul, Finset.mul_sum, ← Finset.sum_sub_distrib]
  exact Finset.sum_congr rfl fun j _ => by ring

end Cert.SoftmaxMath

end
-- ==== Proof.DiffPay.lean ====
/-
  What the attention kernel's vector expressions hold at an index, over the extended reals.

  Rows 0 … 127 of the stacked query tile are the first map's, rows 128 … 255 the second's: each keeps its own 64 lanes of
  the query and has zeros in the others, so one product over 128 lanes is the map's product over 64.
-/
module

public import proofs.«01_k».proof.Proof.DiffWords
public import proofs.«01_k».proof.Proof.SoftmaxMath
public import Idealize.ShloMosaic.Lib.Pointwise

@[expose] public section

set_option maxRecDepth 16384

noncomputable section

namespace Cert.KernelIdeal.DiffPay

open Cert.KernelIdeal Cert.KernelIdeal.Gen Cert.KernelIdeal.DiffWords Idealize.ShloMosaic

/-- The stacked query: map 1's lanes (the first 64) in rows 0 … 127, map 2's in rows 128 … 255, zeros elsewhere. -/
def q2 (x0 : Vec Ideal S128x128 .bf16) (R : Fin 256) (t : Fin 128) : EReal :=
  if h : R.val < 128 then (if t.val < 64 then x0 (ix2 ⟨R.val, h⟩ t) else 0)
  else (if 64 ≤ t.val then x0 (ix2 ⟨R.val - 128, by omega⟩ t) else 0)

/-- The score of key `j` for stacked row `R` of query tile `q`: the scaled product less the slope times the distance. -/
def kScore (q : ℕ) (x0 : Vec Ideal S128x128 .bf16) (x1 : Vec Ideal S2048x128 .bf16) (s : EReal) (R : Fin 256) (j : Fin 2048) : EReal :=
  (∑ t : Fin 128, q2 x0 R t * x1 (ix2 j t)) * Ideal.ofBits .f32 0x3E000000#32
    - s * ((((q : ℤ) * 128 + ((R.val % 128 : ℕ) : ℤ) - ((j.val : ℕ) : ℤ) : ℤ) : ℝ) : EReal)

/-- The same, `⊥` at the keys after the query. -/
def zK (q : ℕ) (x0 : Vec Ideal S128x128 .bf16) (x1 : Vec Ideal S2048x128 .bf16) (s : EReal) (R : Fin 256) (j : Fin 2048) : EReal :=
  if j.val ≤ q * 128 + R.val % 128 then kScore q x0 x1 s R j else ⊥

/-- Key `x` of block `n`, as a position among all keys. -/
def keyOf (n : ℕ) (hn : n < 8) (x : Fin 256) : Fin 2048 := ⟨256 * n + x.val, by omega⟩

theorem pay2_at (x0 : Vec Ideal S128x128 .bf16) (r : Fin 256) (j : Fin 128) : k0_pay2 x0 (ix2 r j) = q2 x0 r j := by
  pointwise [k0_pay2]
  have h1 : ∀ j : Fin 128, IntOp.cmpi .slt (BitVec.ofNat 32 j.val) 64#32 = if j.val < 64 then 1#1 else 0#1 := by decide +kernel
  have h2 : ∀ j : Fin 128, IntOp.cmpi .sge (BitVec.ofNat 32 j.val) 64#32 = if 64 ≤ j.val then 1#1 else 0#1 := by decide +kernel
  have sel : ∀ (p : Prop) [Decidable p] (c : BitVec 1) (_ : c = if p then 1#1 else 0#1) (a b : EReal),
      Scalar.select c a b = if p then a else b := fun p _ c hc a b => by
    subst hc
    by_cases hp : p
    · rw [if_pos hp, if_pos hp]; rfl
    · rw [if_neg hp, if_neg hp]; rfl
  unfold q2
  by_cases a : r.val < 128
  · rw [dif_pos a, dif_pos a]; exact sel _ _ (h1 j) _ _
  · rw [dif_neg a, dif_neg a]; exact sel _ _ (h2 j) _ _

theorem pay3_at (r j : Fin 256) : k0_pay3 (ix2 r j) = IntOp.subi (BitVec.ofNat 32 (r.val % 128)) (BitVec.ofNat 32 j.val) := by
  pointwise [k0_pay3]
  rw [row_word]

theorem pay4_at (x0 : Vec Ideal S1x1x256 .f32) (j : Fin 256) : k0_pay4 x0 (ix2 0 j) = x0 (ix3 0 0 j) := by
  pointwise [k0_pay4]

theorem pay5_at (j : Fin 256) : k0_pay5 (F := Ideal) (ix2 j 0) = ⊥ := by
  pointwise [k0_pay5]
  rfl

theorem pay6_at (j : Fin 256) : k0_pay6 (F := Ideal) (ix2 j 0) = 0 := by
  pointwise [k0_pay6]

theorem pay7_at (j : Fin 256) (d : Fin 128) : k0_pay7 (F := Ideal) (ix2 j d) = 0 := by
  pointwise [k0_pay7]

theorem ninf : Ideal.ofBits .f32 0xFF800000#32 = (⊥ : EReal) := by
  simp [Ideal.ofBits, Ideal.ieee]

/-- A block before the query tile: every key of it is visible, and the payload is the score. -/
theorem pay8_at (i : grid0.Coords) (k : Fin (k0_t1_loop i).trips) (hk : k.val < 8) (hvis : 256 * k.val + 256 ≤ (i 2).val * 128)
    (x0 : Vec Ideal S128x128 .bf16) (x1 : Vec Ideal S2048x128 .bf16) (x3 : Vec Ideal S1x1x256 .f32) (s : EReal)
    (hs : ∀ j, x3 (ix3 0 0 j) = s) (K : Vec Ideal S256x128 .bf16) (hK : ∀ x t, K (ix2 x t) = x1 (ix2 (keyOf k.val hk x) t)) (R j : Fin 256) :
    k0_pay8 i (BitVec.ofNat 32 (i 2).val) (k0_pay2 x0) k0_pay3 (k0_pay4 x3) k K (ix2 R j) = zK (i 2).val x0 x1 s R (keyOf k.val hk j) := by
  pointwise [k0_pay8]
  have hq : (i 2).val < 16 := (i 2).isLt
  rw [zK, if_pos (by simp only [keyOf]; omega), kScore, pay4_at, hs, pay3_at, iv_word]
  simp only [pay2_at, hK]
  congr 2
  exact congrArg (fun z : ℤ => ((z : ℝ) : EReal)) (rel_word R j (i 2).val k.val hq hk)

/-- The block of the query tile itself: the payload is the score where the key is visible and `⊥` where it is not. -/
theorem pay20_at (q n : ℕ) (hq : q < 16) (hn : n < 8)
    (x0 : Vec Ideal S128x128 .bf16) (x1 : Vec Ideal S2048x128 .bf16) (x3 : Vec Ideal S1x1x256 .f32) (s : EReal)
    (hs : ∀ j, x3 (ix3 0 0 j) = s) (K : Vec Ideal S256x128 .bf16) (hK : ∀ x t, K (ix2 x t) = x1 (ix2 (keyOf n hn x) t)) (R j : Fin 256) :
    k0_pay20 (k0_pay2 x0) k0_pay3 (k0_pay4 x3) (BitVec.ofNat 32 n) K (Scalar.muli (BitVec.ofNat 32 q) 128#32) 256#32 (ix2 R j)
      = zK q x0 x1 s R (keyOf n hn j) := by
  pointwise [k0_pay20]
  have hw := rel_word R j q n hq hn
  rw [pay4_at, hs, pay3_at, sge_zero, hw, zK, kScore]
  simp only [pay2_at, hK]
  by_cases h : (keyOf n hn j).val ≤ q * 128 + R.val % 128
  · rw [if_pos h, if_pos (by simp only [keyOf] at h; omega)]
    show (∑ _, _) * _ - s * FloatOps.sitofp (F := Ideal) .f32 _ = _
    congr 2
    exact congrArg (fun z : ℤ => ((z : ℝ) : EReal)) hw
  · rw [if_neg h, if_neg (by simp only [keyOf] at h; omega)]
    rfl

theorem pay9_at (i : grid0.Coords) (arg2 : BitVec 32) (v9 : FVec Ideal S256x128 .bf16) (v17 : IVec S256x256 32) (v19 : FVec Ideal S1x256 .f32) (k : Fin (k0_t1_loop i).trips) (v156 : Vec Ideal S256x128 .bf16) (a : FVec Ideal S256x1 .f32)  (r : Fin 256) :
    k0_pay9 i arg2 v9 v17 v19 k a v156 (ix2 r 0)
      = max (a (ix2 r 0)) (Finset.univ.sup fun x : Fin 256 => k0_pay8 i arg2 v9 v17 v19 k v156 (ix2 r x)) := by
  pointwise [k0_pay9]
  rw [ninf]; rfl

theorem pay12_at (i : grid0.Coords) (arg2 : BitVec 32) (v9 : FVec Ideal S256x128 .bf16) (v17 : IVec S256x256 32) (v19 : FVec Ideal S1x256 .f32) (k : Fin (k0_t1_loop i).trips) (v156 : Vec Ideal S256x128 .bf16) (a b : FVec Ideal S256x1 .f32)  (r : Fin 256) :
    k0_pay12 i arg2 v9 v17 v19 k a b v156 (ix2 r 0)
      = Ideal.exp (a (ix2 r 0) - k0_pay9 i arg2 v9 v17 v19 k a v156 (ix2 r 0)) * b (ix2 r 0)
        + ∑ x : Fin 256, Ideal.exp (k0_pay8 i arg2 v9 v17 v19 k v156 (ix2 r x) - k0_pay9 i arg2 v9 v17 v19 k a v156 (ix2 r 0)) := by
  pointwise [k0_pay12, k0_pay10, k0_pay11]

theorem pay13_at (i : grid0.Coords) (arg2 : BitVec 32) (v9 : FVec Ideal S256x128 .bf16) (v17 : IVec S256x256 32) (v19 : FVec Ideal S1x256 .f32) (k : Fin (k0_t1_loop i).trips) (v156 v158 : Vec Ideal S256x128 .bf16) (a : FVec Ideal S256x1 .f32) (b : FVec Ideal S256x128 .f32)  (r : Fin 256) (d : Fin 128):
    k0_pay13 i arg2 v9 v17 v19 k a b v156 v158 (ix2 r d)
      = Ideal.exp (a (ix2 r 0) - k0_pay9 i arg2 v9 v17 v19 k a v156 (ix2 r 0)) * b (ix2 r d)
        + ∑ x : Fin 256, Ideal.exp (k0_pay8 i arg2 v9 v17 v19 k v156 (ix2 r x) - k0_pay9 i arg2 v9 v17 v19 k a v156 (ix2 r 0)) * v158 (ix2 x d) := by
  pointwise [k0_pay13, k0_pay10, k0_pay11]

theorem pay21_at (v9 : FVec Ideal S256x128 .bf16) (v17 : IVec S256x256 32) (v19 : FVec Ideal S1x256 .f32) (a : FVec Ideal S256x1 .f32) (w1 w2 w3 : BitVec 32) (K : Vec Ideal S256x128 .bf16) (r : Fin 256) :
    k0_pay21 v9 v17 v19 a w1 K w2 w3 (ix2 r 0)
      = max (a (ix2 r 0)) (Finset.univ.sup fun x : Fin 256 => k0_pay20 v9 v17 v19 w1 K w2 w3 (ix2 r x)) := by
  pointwise [k0_pay21]
  rw [ninf]; rfl

theorem pay24_at (v9 : FVec Ideal S256x128 .bf16) (v17 : IVec S256x256 32) (v19 : FVec Ideal S1x256 .f32) (a b : FVec Ideal S256x1 .f32) (w1 w2 w3 : BitVec 32) (K : Vec Ideal S256x128 .bf16) (r : Fin 256) :
    k0_pay24 v9 v17 v19 a b w1 K w2 w3 (ix2 r 0)
      = Ideal.exp (a (ix2 r 0) - k0_pay21 v9 v17 v19 a w1 K w2 w3 (ix2 r 0)) * b (ix2 r 0)
        + ∑ x : Fin 256, Ideal.exp (k0_pay20 v9 v17 v19 w1 K w2 w3 (ix2 r x) - k0_pay21 v9 v17 v19 a w1 K w2 w3 (ix2 r 0)) := by
  pointwise [k0_pay24, k0_pay22, k0_pay23]

theorem pay25_at (v9 : FVec Ideal S256x128 .bf16) (v17 : IVec S256x256 32) (v19 : FVec Ideal S1x256 .f32) (a : FVec Ideal S256x1 .f32) (b : FVec Ideal S256x128 .f32) (w1 w2 w3 : BitVec 32) (K V : Vec Ideal S256x128 .bf16) (r : Fin 256) (d : Fin 128) :
    k0_pay25 v9 v17 v19 a b w1 K V w2 w3 (ix2 r d)
      = Ideal.exp (a (ix2 r 0) - k0_pay21 v9 v17 v19 a w1 K w2 w3 (ix2 r 0)) * b (ix2 r d)
        + ∑ x : Fin 256, Ideal.exp (k0_pay20 v9 v17 v19 w1 K w2 w3 (ix2 r x) - k0_pay21 v9 v17 v19 a w1 K w2 w3 (ix2 r 0)) * V (ix2 x d) := by
  pointwise [k0_pay25, k0_pay22, k0_pay23]

theorem pay26_at (x : Vec Ideal S4x64 .f32) : k0_pay26 x (ix2 0 0)
    = Ideal.exp (∑ t : Fin 64, x (ix2 0 t) * x (ix2 1 t)) - Ideal.exp (∑ t : Fin 64, x (ix2 2 t) * x (ix2 3 t)) + Ideal.ofBits .f32 0x3E4CCCCD#32 := by
  pointwise [k0_pay26]

/-- The two maps' averages of the values, and their difference, at stacked rows `r` and `128 + r`. -/
def oK (l : FVec Ideal S256x1 .f32) (a : FVec Ideal S256x128 .f32) (c : EReal) (r x : Fin 128) : EReal :=
  Ideal.div (a (ix2 ⟨r.val, by omega⟩ x)) (l (ix2 ⟨r.val, by omega⟩ 0))
    - c * Ideal.div (a (ix2 ⟨128 + r.val, by omega⟩ x)) (l (ix2 ⟨128 + r.val, by omega⟩ 0))

theorem pay1_at (v102 : FVec Ideal S256x1 .f32) (v107 : FVec Ideal S256x128 .f32) (v123 : FVec Ideal S1x1 .f32) (v145 : Vec Ideal S1x128 .f32) (r d : Fin 128) :
    k0_pay1 v102 v107 v123 v145 (ix2 r d)
      = oK v102 v107 (v123 (ix2 0 0)) r d
          * Ideal.rsqrt (Ideal.div (∑ x : Fin 128, oK v102 v107 (v123 (ix2 0 0)) r x * oK v102 v107 (v123 (ix2 0 0)) r x)
              (Ideal.ofBits .f32 0x43000000#32) + Ideal.ofBits .f32 0x358637BD#32)
          * v145 (ix2 0 d) * Ideal.ofBits .f32 0x3F4CCCCD#32 := by
  pointwise [k0_pay1]
  rfl

end Cert.KernelIdeal.DiffPay

end
-- ==== Proof.DiffBody.lean ====
/-
  The attention kernel's body at one grid point, over the extended reals: what it stores at a row and a lane.

  The loop over the key blocks before the query tile keeps, for every stacked row, the largest score so far and the two sums of
  `Cert.SoftmaxMath`; the last block adds the visible keys of the tile itself. So the tile stored is the
  difference of the two maps' softmax averages, normalised and scaled.
-/
module

public import proofs.«01_k».proof.Proof.DiffPay

@[expose] public section

set_option maxRecDepth 16384

noncomputable section

namespace Cert.KernelIdeal.DiffBody

open Cert.KernelIdeal Cert.KernelIdeal.Gen Cert.KernelIdeal.DiffWords Cert.KernelIdeal.DiffPay Cert.SoftmaxMath
open Idealize.ShloMosaic Idealize.ShloMosaic.TcCoe Idealize.ShloMosaic.Tactic Idealize.SL.Sem Idealize.ShloMosaic.Rounds Idealize.SL Idealize.SL.RA

theorem hz : (![0, 0] : Fin 2 → Nat) = fun _ => 0 := funext fun a => by fin_cases a <;> rfl
theorem hz3 : (![0, 0, 0] : Fin 3 → Nat) = fun _ => 0 := funext fun a => by fin_cases a <;> rfl

/-- The keys of the first `n` blocks. -/
def seen (n : ℕ) : Finset (Fin 2048) := Finset.univ.filter fun j => j.val < 256 * n

/-- Block `n`'s keys, as an embedding. -/
def keyEmb (n : ℕ) (hn : n < 8) : Fin 256 ↪ Fin 2048 :=
  ⟨keyOf n hn, fun x y h => Fin.ext (by have := congrArg Fin.val h; simp only [keyOf] at this; omega)⟩

/-- Block `n`'s keys. -/
def blk (n : ℕ) (hn : n < 8) : Finset (Fin 2048) := Finset.univ.map (keyEmb n hn)

theorem mem_blk (n : ℕ) (hn : n < 8) (j : Fin 2048) : j ∈ blk n hn ↔ 256 * n ≤ j.val ∧ j.val < 256 * n + 256 := by
  simp only [blk, Finset.mem_map, Finset.mem_univ, true_and]
  constructor
  · rintro ⟨x, rfl⟩
    have := x.isLt
    show 256 * n ≤ 256 * n + x.val ∧ 256 * n + x.val < 256 * n + 256
    omega
  · rintro ⟨h1, h2⟩
    exact ⟨⟨j.val - 256 * n, by omega⟩, Fin.ext (by show 256 * n + (j.val - 256 * n) = j.val; omega)⟩

theorem seen_succ (n : ℕ) (hn : n < 8) : seen (n + 1) = seen n ∪ blk n hn := by
  ext j
  rw [Finset.mem_union, mem_blk]
  simp only [seen, Finset.mem_filter, Finset.mem_univ, true_and]
  omega

theorem seen_disj (n : ℕ) (hn : n < 8) : Disjoint (seen n) (blk n hn) := by
  rw [Finset.disjoint_left]
  intro j h1 h2
  rw [mem_blk] at h2
  simp only [seen, Finset.mem_filter, Finset.mem_univ, true_and] at h1
  omega

theorem sum_blk (n : ℕ) (hn : n < 8) (f : Fin 2048 → EReal) : ∑ x : Fin 256, f (keyOf n hn x) = ∑ j ∈ blk n hn, f j := by
  rw [blk, Finset.sum_map]; rfl

theorem sup_blk (n : ℕ) (hn : n < 8) (f : Fin 2048 → EReal) : (Finset.univ.sup fun x : Fin 256 => f (keyOf n hn x)) = (blk n hn).sup f := by
  rw [blk, Finset.sup_map]; rfl

/-- What is kept of a row after the keys of `A`: the largest score, the sum of the exponentials of the scores less it, and
    for each lane the sum of those times the values. -/
def RowSt (z : Fin 2048 → EReal) (w : Fin 128 → Fin 2048 → ℝ) (A : Finset (Fin 2048)) (m l : EReal) (a : Fin 128 → EReal) : Prop :=
  m = A.sup z ∧ l = ∑ j ∈ A, Ideal.exp (z j - A.sup z) ∧ ∀ d, a d = ∑ j ∈ A, Ideal.exp (z j - A.sup z) * (w d j : EReal)

/-- One block's step of what is kept. -/
theorem RowSt.step {z : Fin 2048 → EReal} {w : Fin 128 → Fin 2048 → ℝ} {n : ℕ} (hn : n < 8) {m l m' l' : EReal} {a a' : Fin 128 → EReal}
    (h : RowSt z w (seen n) m l a) (hz : ∀ j, z j ≠ ⊤)
    (hm : m' = max m (Finset.univ.sup fun x : Fin 256 => z (keyOf n hn x)))
    (hl : l' = Ideal.exp (m - m') * l + ∑ x : Fin 256, Ideal.exp (z (keyOf n hn x) - m'))
    (ha : ∀ d, a' d = Ideal.exp (m - m') * a d + ∑ x : Fin 256, Ideal.exp (z (keyOf n hn x) - m') * (w d (keyOf n hn x) : EReal)) :
    RowSt z w (seen (n + 1)) m' l' a' := by
  obtain ⟨h1, h2, h3⟩ := h
  have e : m' = (seen (n + 1)).sup z := by
    rw [hm, sup_blk n hn z, h1, seen_succ n hn, Finset.sup_union]
  have hle : ∀ j ∈ seen n, z j ≤ m := fun j hj => h1 ▸ Finset.le_sup hj
  have hmm : m ≤ m' := hm ▸ le_max_left _ _
  have ht : m' ≠ ⊤ := e ▸ sup_ne_top _ _ fun j _ => hz j
  refine ⟨e, ?_, fun d => ?_⟩
  · rw [hl, h2, ← h1, ← e, sum_blk n hn fun j => Ideal.exp (z j - m'), step_plain _ _ (seen_disj n hn) z hle hmm ht, ← seen_succ n hn]
  · rw [ha d, h3 d, ← h1, ← e, sum_blk n hn fun j => Ideal.exp (z j - m') * (w d j : EReal),
      step_weighted _ _ (seen_disj n hn) z (w d) hle hmm ht, ← seen_succ n hn]

/-- The softmax average of `w` by the scores `z`. -/
def softAvg (z w : Fin 2048 → EReal) : EReal :=
  Ideal.div (∑ j, Ideal.exp (z j - Finset.univ.sup z) * w j) (∑ j, Ideal.exp (z j - Finset.univ.sup z))

/-- When the keys not seen are hidden, the quotient of what is kept is the softmax average. -/
theorem RowSt.avg {z : Fin 2048 → EReal} {w : Fin 128 → Fin 2048 → ℝ} {A : Finset (Fin 2048)} {m l : EReal} {a : Fin 128 → EReal}
    (h : RowSt z w A m l a) (hA : ∀ j, j ∉ A → z j = ⊥) (d : Fin 128) : Ideal.div (a d) l = softAvg z fun j => (w d j : EReal) := by
  obtain ⟨-, h2, h3⟩ := h
  have e := sum_visible A z (fun _ => 1) (A.sup z) hA
  simp only [mul_one] at e
  rw [h2, h3 d, sum_visible A z _ _ hA, e, sup_visible A z hA]
  rfl

/-- A product of two reals, of finitely many summed, is a real. -/
theorem real_sum {ι : Type} [Fintype ι] (f g : ι → EReal) (hf : ∀ x, ∃ r : ℝ, f x = r) (hg : ∀ x, ∃ r : ℝ, g x = r) :
    ∃ r : ℝ, ∑ x, f x * g x = (r : EReal) := by
  choose a ha using hf
  choose b hb using hg
  refine ⟨∑ x, a x * b x, ?_⟩
  rw [← sum_coe]
  exact Finset.sum_congr rfl fun x _ => by rw [ha, hb, EReal.coe_mul]

/-- The scale 1/8. -/
theorem eighth : Ideal.ofBits .f32 0x3E000000#32 = ((1 / 8 : ℝ) : EReal) := by
  simp [Ideal.ofBits, Ideal.ieee, -EReal.coe_mul]
  norm_num

section Scores

variable {x0 : Vec Ideal S128x128 .bf16} {x1 : Vec Ideal S2048x128 .bf16} {s : EReal}

/-- On finite queries, keys and slope a score is a real. -/
theorem kScore_real (q : ℕ) (h0 : ∀ i, ∃ r : ℝ, x0 i = r) (h1 : ∀ i, ∃ r : ℝ, x1 i = r) (hs : ∃ r : ℝ, s = r) (R : Fin 256) (j : Fin 2048) :
    ∃ r : ℝ, kScore q x0 x1 s R j = (r : EReal) := by
  obtain ⟨a, ha⟩ := real_sum (fun t : Fin 128 => q2 x0 R t) (fun t => x1 (ix2 j t))
    (fun t => by
      unfold q2
      split_ifs
      · exact h0 _
      · exact ⟨0, rfl⟩
      · exact h0 _
      · exact ⟨0, rfl⟩) (fun t => h1 _)
  obtain ⟨b, hb⟩ := hs
  unfold kScore
  rw [ha, hb, eighth, ← EReal.coe_mul, ← EReal.coe_mul, ← EReal.coe_sub]
  exact ⟨_, rfl⟩

theorem zK_ne_top (q : ℕ) (h0 : ∀ i, ∃ r : ℝ, x0 i = r) (h1 : ∀ i, ∃ r : ℝ, x1 i = r) (hs : ∃ r : ℝ, s = r) (R : Fin 256) (j : Fin 2048) :
    zK q x0 x1 s R j ≠ ⊤ := by
  unfold zK
  split_ifs
  · obtain ⟨r, hr⟩ := kScore_real q h0 h1 hs R j
    rw [hr]; exact EReal.coe_ne_top r
  · exact bot_ne_top

end Scores

/-- The trips of the loop over the blocks before the tile, and of the loop that is empty. -/
theorem trips1 (i : grid0.Coords) : (k0_t1_loop i).trips = (i 2).val / 2 := by
  have h : ∀ z : Fin 16, ∀ i : grid0.Coords, i 2 = z → (k0_t1_loop i).trips = z.val / 2 := by
    intro z i hi
    unfold k0_t1_loop
    simp only [hi]
    clear hi i
    revert z; decide +kernel
  exact h _ i rfl

theorem trips2 (i : grid0.Coords) : (k0_t2_loop i).trips = 0 := by
  have h : ∀ z : Fin 16, ∀ i : grid0.Coords, i 2 = z → (k0_t2_loop i).trips = 0 := by
    intro z i hi
    unfold k0_t2_loop
    simp only [hi]
    clear hi i
    revert z; decide +kernel
  exact h _ i rfl

/-- Trip `n` reads the keys and the values from row `256 n`. -/
theorem off1_eq (i : grid0.Coords) (k : Fin (k0_t1_loop i).trips) (hk : k.val < 8) : k0_off1 i k = ![256 * k.val, 0] := by
  have h : ∀ n : Fin 8, (Scalar.muli (Scf.iv 0#32 1#32 n.val) 256#32).toNat = 256 * n.val := by decide +kernel
  show ![(Scalar.muli (Scf.iv 0#32 1#32 k.val) 256#32).toNat, 0] = _
  rw [h ⟨k.val, hk⟩]

/-- Reading 256 rows of the keys from row `256 n`. -/
theorem ld_rows {φ : EltTy} (x : Vec Ideal S2048x128 φ) (off : Fin 2 → ℕ) (n : ℕ) (hn : n < 8) (ho : off = ![256 * n, 0])
    (h : ∀ a, off a + S256x128.size a ≤ S2048x128.size a) (r : Fin 256) (t : Fin 128) :
    View.ld x (Rect.unit (s := S2048x128) off S256x128.size h) (ix2 r t) = x (ix2 (keyOf n hn r) t) := by
  subst ho
  show x _ = x _
  congr 1
  funext a
  apply Fin.ext
  match a with
  | ⟨0, _⟩ => show 256 * n + 1 * r.val = 256 * n + r.val; omega
  | ⟨1, _⟩ => show 0 + 1 * t.val = t.val; omega

/-- One trip: the new largest score and the two new sums, from block `k` of the keys and the values. -/
theorem tripR_eq (𝒱 : Variants) (c : Dev nD) (bd : Option 𝒱.V) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x256 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S128x128 .bf16) (harg9 : arg9.IsWhole) (arg2 : BitVec 32) (v9 : FVec Ideal S256x128 .bf16) (v17 : IVec S256x256 32) (v19 : FVec Ideal S1x256 .f32) (v20 : FVec Ideal S256x1 .f32) (v21 : FVec Ideal S256x1 .f32) (v22 : FVec Ideal S256x128 .f32) (v24 : BitVec 32) (v35 : BitVec 1) (v36 : BitVec 32) (c0_i32_13 : BitVec 32)
    (x1 x2 : Vec Ideal S2048x128 .bf16) (k : Fin (k0_t1_loop i).trips) (acc : FVec Ideal S256x1 .f32 × FVec Ideal S256x1 .f32 × FVec Ideal S256x128 .f32) :
    tripR_k0_t1 (F := Ideal) 𝒱 c bd i arg3 harg3 arg4 harg4 arg5 harg5 arg6 harg6 arg7 harg7 arg8 harg8 arg9 harg9 arg2 v9 v17 v19 v20 v21 v22 v24 v35 v36 c0_i32_13 (harg4.unread x1) (harg5.unread x2) k acc
      = (k0_pay9 i arg2 v9 v17 v19 k acc.1 (View.ld x1 (Rect.unit (s := S2048x128) (k0_off1 i k) S256x128.size (k0_off1_inb i k))),
         k0_pay12 i arg2 v9 v17 v19 k acc.1 acc.2.1 (View.ld x1 (Rect.unit (s := S2048x128) (k0_off1 i k) S256x128.size (k0_off1_inb i k))),
         k0_pay13 i arg2 v9 v17 v19 k acc.1 acc.2.2 (View.ld x1 (Rect.unit (s := S2048x128) (k0_off1 i k) S256x128.size (k0_off1_inb i k)))
          (View.ld x2 (Rect.unit (s := S2048x128) (k0_off1 i k) S256x128.size (k0_off1_inb i k)))) := by
  unfold tripR_k0_t1 trip_k0_t1
  dsimp only
  sl_unfold_words
  simp only [View.readAt_eq_ld, harg4.read_unread, harg5.read_unread]

/-- The second loop makes no trip: what enters it leaves it. -/
theorem st2_eq (𝒱 : Variants) (c : Dev nD) (bd : Option 𝒱.V) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x256 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S128x128 .bf16) (harg9 : arg9.IsWhole) (arg2 : BitVec 32) (v9 : FVec Ideal S256x128 .bf16) (v17 : IVec S256x256 32) (v19 : FVec Ideal S1x256 .f32) (v20 : FVec Ideal S256x1 .f32) (v21 : FVec Ideal S256x1 .f32) (v22 : FVec Ideal S256x128 .f32) (v24 : BitVec 32) (v35 : BitVec 1) (v36 : BitVec 32) (c0_i32_13 : BitVec 32)
    (X4 X5) (init) : ∀ n, st_k0_t2 (F := Ideal) 𝒱 c bd i arg3 harg3 arg4 harg4 arg5 harg5 arg6 harg6 arg7 harg7 arg8 harg8 arg9 harg9 arg2 v9 v17 v19 v20 v21 v22 v24 v35 v36 c0_i32_13 X4 X5 init n = init
  | 0 => rfl
  | n + 1 => by
    rw [st_k0_t2.eq_2]
    unfold st_k0_t2Step
    rw [dif_neg (by rw [trips2]; omega)]
    exact st2_eq 𝒱 c bd i arg3 harg3 arg4 harg4 arg5 harg5 arg6 harg6 arg7 harg7 arg8 harg8 arg9 harg9 arg2 v9 v17 v19 v20 v21 v22 v24 v35 v36 c0_i32_13 X4 X5 init n

/-- The rows' state: after `n` blocks, what is kept of each stacked row. -/
def Inv (q : ℕ) (x0 : Vec Ideal S128x128 .bf16) (x1 : Vec Ideal S2048x128 .bf16) (s : EReal) (w : Fin 128 → Fin 2048 → ℝ) (n : ℕ)
    (st : FVec Ideal S256x1 .f32 × FVec Ideal S256x1 .f32 × FVec Ideal S256x128 .f32) : Prop :=
  ∀ R : Fin 256, RowSt (zK q x0 x1 s R) w (seen n) (st.1 (ix2 R 0)) (st.2.1 (ix2 R 0)) fun d => st.2.2 (ix2 R d)

section Body

variable {x0 : Vec Ideal S128x128 .bf16} {x1 x2 : Vec Ideal S2048x128 .bf16} {x3 : Vec Ideal S1x1x256 .f32} {s : EReal} {w : Fin 128 → Fin 2048 → ℝ}

/-- Before the first block: the largest score is `⊥`, the sums are 0. -/
theorem inv_zero (q : ℕ) : Inv q x0 x1 s w 0 (k0_pay5, k0_pay6, k0_pay7) := fun R => by
  have e : seen 0 = ∅ := by ext j; simp [seen]
  rw [e]
  exact ⟨by rw [Finset.sup_empty]; exact pay5_at R, by rw [Finset.sum_empty]; exact pay6_at R,
    fun d => by rw [Finset.sum_empty]; exact pay7_at R d⟩

/-- The state of the loop after `n` of its trips. -/
theorem st1_inv (𝒱 : Variants) (c : Dev nD) (bd : Option 𝒱.V) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x256 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S128x128 .bf16) (harg9 : arg9.IsWhole) (v20 : FVec Ideal S256x1 .f32) (v21 : FVec Ideal S256x1 .f32) (v22 : FVec Ideal S256x128 .f32) (v24 : BitVec 32) (v35 : BitVec 1) (v36 : BitVec 32) (c0_i32_13 : BitVec 32)
    (h0 : ∀ i, ∃ r : ℝ, x0 i = r) (h1 : ∀ i, ∃ r : ℝ, x1 i = r) (hs' : ∃ r : ℝ, s = r)
    (hs : ∀ j, x3 (ix3 0 0 j) = s) (hw : ∀ d j, x2 (ix2 j d) = (w d j : EReal)) :
    ∀ n, n ≤ (i 2).val / 2 → Inv (i 2).val x0 x1 s w n
      (st_k0_t1 (F := Ideal) 𝒱 c bd i arg3 harg3 arg4 harg4 arg5 harg5 arg6 harg6 arg7 harg7 arg8 harg8 arg9 harg9 (BitVec.ofNat 32 (i 2).val) (k0_pay2 x0) k0_pay3 (k0_pay4 x3) v20 v21 v22 v24 v35 v36 c0_i32_13 (harg4.unread x1) (harg5.unread x2) (k0_pay5, k0_pay6, k0_pay7) n)
  | 0, _ => by rw [st_k0_t1_zero]; exact inv_zero _
  | n + 1, hn => by
    have hq : (i 2).val < 16 := (i 2).isLt
    have hn8 : n < 8 := by omega
    have ih := st1_inv 𝒱 c bd i arg3 harg3 arg4 harg4 arg5 harg5 arg6 harg6 arg7 harg7 arg8 harg8 arg9 harg9 v20 v21 v22 v24 v35 v36 c0_i32_13 h0 h1 hs' hs hw n (by omega)
    have hlt : n < (k0_t1_loop i).trips := by rw [trips1]; omega
    have hoff : k0_off1 i ⟨n, hlt⟩ = ![256 * n, 0] := off1_eq i ⟨n, hlt⟩ hn8
    have hK := ld_rows x1 (k0_off1 i ⟨n, hlt⟩) n hn8 hoff (k0_off1_inb i ⟨n, hlt⟩)
    have hV := ld_rows x2 (k0_off1 i ⟨n, hlt⟩) n hn8 hoff (k0_off1_inb i ⟨n, hlt⟩)
    rw [st_k0_t1_succ 𝒱 c bd i arg3 harg3 arg4 harg4 arg5 harg5 arg6 harg6 arg7 harg7 arg8 harg8 arg9 harg9 (BitVec.ofNat 32 (i 2).val) (k0_pay2 x0) k0_pay3 (k0_pay4 x3) v20 v21 v22 v24 v35 v36 c0_i32_13 (harg4.unread x1) (harg5.unread x2) _ ⟨n, hlt⟩, tripR_eq]
    intro R
    have hz := fun j => pay8_at i ⟨n, hlt⟩ hn8 (by show 256 * n + 256 ≤ _; omega) x0 x1 x3 s hs _ hK R j
    refine (ih R).step hn8 (zK_ne_top _ h0 h1 hs' R) ?_ ?_ fun d => ?_
    · dsimp only; rw [pay9_at]; simp only [hz]
    · dsimp only; rw [pay12_at]; simp only [hz]
    · dsimp only; rw [pay13_at]; simp only [hz, hV, hw]

/-- … so, after the last of its trips. -/
theorem st1_last (𝒱 : Variants) (c : Dev nD) (bd : Option 𝒱.V) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x256 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S128x128 .bf16) (harg9 : arg9.IsWhole) (v20 : FVec Ideal S256x1 .f32) (v21 : FVec Ideal S256x1 .f32) (v22 : FVec Ideal S256x128 .f32) (v24 : BitVec 32) (v35 : BitVec 1) (v36 : BitVec 32) (c0_i32_13 : BitVec 32)
    (h0 : ∀ i, ∃ r : ℝ, x0 i = r) (h1 : ∀ i, ∃ r : ℝ, x1 i = r) (hs' : ∃ r : ℝ, s = r)
    (hs : ∀ j, x3 (ix3 0 0 j) = s) (hw : ∀ d j, x2 (ix2 j d) = (w d j : EReal)) :
    ∀ n, n = (i 2).val / 2 → Inv (i 2).val x0 x1 s w ((i 2).val / 2)
      (st_k0_t1 (F := Ideal) 𝒱 c bd i arg3 harg3 arg4 harg4 arg5 harg5 arg6 harg6 arg7 harg7 arg8 harg8 arg9 harg9 (BitVec.ofNat 32 (i 2).val) (k0_pay2 x0) k0_pay3 (k0_pay4 x3) v20 v21 v22 v24 v35 v36 c0_i32_13 (harg4.unread x1) (harg5.unread x2) (k0_pay5, k0_pay6, k0_pay7) n) := fun n hn => by
  rw [hn]
  exact st1_inv 𝒱 c bd i arg3 harg3 arg4 harg4 arg5 harg5 arg6 harg6 arg7 harg7 arg8 harg8 arg9 harg9 v20 v21 v22 v24 v35 v36 c0_i32_13 h0 h1 hs' hs hw _ (le_refl _)

/-- What the body stores at row `r`, lane `d`, of blocks `x0 … x5`: the difference of the two maps' averages, divided by its root mean
    square over the 128 lanes, times the gain, times 0.8. -/
def outAt (q : ℕ) (x0 : Vec Ideal S128x128 .bf16) (x1 x2 : Vec Ideal S2048x128 .bf16) (s c : EReal) (x5 : Vec Ideal S1x128 .f32) (r d : Fin 128) : EReal :=
  let o := fun x : Fin 128 => softAvg (zK q x0 x1 s ⟨r.val, by omega⟩) (fun j => x2 (ix2 j x))
    - c * softAvg (zK q x0 x1 s ⟨128 + r.val, by omega⟩) (fun j => x2 (ix2 j x))
  o d * Ideal.rsqrt (Ideal.div (∑ x : Fin 128, o x * o x) (Ideal.ofBits .f32 0x43000000#32) + Ideal.ofBits .f32 0x358637BD#32)
    * x5 (ix2 0 d) * Ideal.ofBits .f32 0x3F4CCCCD#32

/-- The last block and the end of the body, from the state after the blocks before it. -/
theorem last_step (q : ℕ) (hq : q < 16) (v : BitVec 32) (hv : v = BitVec.ofNat 32 (q / 2))
    (h0 : ∀ i, ∃ r : ℝ, x0 i = r) (h1 : ∀ i, ∃ r : ℝ, x1 i = r) (hs' : ∃ r : ℝ, s = r)
    (hs : ∀ j, x3 (ix3 0 0 j) = s) (hw : ∀ d j, x2 (ix2 j d) = (w d j : EReal))
    (st : FVec Ideal S256x1 .f32 × FVec Ideal S256x1 .f32 × FVec Ideal S256x128 .f32) (hst : Inv q x0 x1 s w (q / 2) st)
    (K V : Vec Ideal S256x128 .bf16) (hK : ∀ x t, K (ix2 x t) = x1 (ix2 (keyOf (q / 2) (by omega) x) t))
    (hV : ∀ x t, V (ix2 x t) = x2 (ix2 (keyOf (q / 2) (by omega) x) t)) (v123 : FVec Ideal S1x1 .f32) (x5 : Vec Ideal S1x128 .f32) (r d : Fin 128) :
    k0_pay1 (k0_pay24 (k0_pay2 x0) k0_pay3 (k0_pay4 x3) st.1 st.2.1 v K (Scalar.muli (BitVec.ofNat 32 q) 128#32) 256#32)
      (k0_pay25 (k0_pay2 x0) k0_pay3 (k0_pay4 x3) st.1 st.2.2 v K V (Scalar.muli (BitVec.ofNat 32 q) 128#32) 256#32) v123 x5 (ix2 r d)
      = outAt q x0 x1 x2 s (v123 (ix2 0 0)) x5 r d := by
  subst hv
  have key : ∀ (R : Fin 256) (x : Fin 128),
      Ideal.div (k0_pay25 (k0_pay2 x0) k0_pay3 (k0_pay4 x3) st.1 st.2.2 (BitVec.ofNat 32 (q / 2)) K V (Scalar.muli (BitVec.ofNat 32 q) 128#32) 256#32 (ix2 R x))
        (k0_pay24 (k0_pay2 x0) k0_pay3 (k0_pay4 x3) st.1 st.2.1 (BitVec.ofNat 32 (q / 2)) K (Scalar.muli (BitVec.ofNat 32 q) 128#32) 256#32 (ix2 R 0))
        = softAvg (zK q x0 x1 s R) fun j => x2 (ix2 j x) := by
    intro R x
    have hz := fun j => pay20_at q (q / 2) hq (by omega) x0 x1 x3 s hs K hK R j
    have h := (hst R).step (n := q / 2) (by omega) (zK_ne_top _ h0 h1 hs' R)
      (m' := k0_pay21 (k0_pay2 x0) k0_pay3 (k0_pay4 x3) st.1 (BitVec.ofNat 32 (q / 2)) K (Scalar.muli (BitVec.ofNat 32 q) 128#32) 256#32 (ix2 R 0))
      (l' := k0_pay24 (k0_pay2 x0) k0_pay3 (k0_pay4 x3) st.1 st.2.1 (BitVec.ofNat 32 (q / 2)) K (Scalar.muli (BitVec.ofNat 32 q) 128#32) 256#32 (ix2 R 0))
      (a' := fun d => k0_pay25 (k0_pay2 x0) k0_pay3 (k0_pay4 x3) st.1 st.2.2 (BitVec.ofNat 32 (q / 2)) K V (Scalar.muli (BitVec.ofNat 32 q) 128#32) 256#32 (ix2 R d))
      (by rw [pay21_at]; simp only [hz]) (by rw [pay24_at]; simp only [hz])
      (fun d => by rw [pay25_at]; simp only [hz, hV, hw])
    have e := h.avg (fun j hj => by
      have hR : R.val % 128 < 128 := Nat.mod_lt _ (by decide)
      simp only [seen, Finset.mem_filter, Finset.mem_univ, true_and] at hj
      rw [zK, if_neg (by omega)]) x
    simp only [hw]
    exact e
  rw [pay1_at]
  simp only [oK, key]
  rfl

/-- The block the body leaves for its output, at row `r` and lane `d`. -/
theorem out0_at (c : Dev nD) (i : grid0.Coords) (arg3 : Memref sig .tc .vmem S128x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x256 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S128x128 .bf16) (harg9 : arg9.IsWhole)
    (x4 : Vec Ideal S4x64 .f32) (x5 : Vec Ideal S1x128 .f32)
    (h0 : ∀ i, ∃ r : ℝ, x0 i = r) (h1 : ∀ i, ∃ r : ℝ, x1 i = r) (hs' : ∃ r : ℝ, s = r)
    (hs : ∀ j, x3 (ix3 0 0 j) = s) (hw : ∀ d j, x2 (ix2 j d) = (w d j : EReal)) (r d : Fin 128) :
    out0_A_6 (F := Ideal) c i arg3 harg3 arg4 harg4 arg5 harg5 arg6 harg6 arg7 harg7 arg8 harg8 arg9 harg9 x0 x1 x2 x3 x4 x5 (ix2 r d)
      = outAt (i 2).val x0 x1 x2 s (k0_pay26 x4 (ix2 0 0)) x5 r d := by
  have hq : (i 2).val < 16 := (i 2).isLt
  unfold out0_A_6
  rw [View.read_writes_eq_canon _ _ _ (cover0_A_6 c i arg3 harg3 arg4 harg4 arg5 harg5 arg6 harg6 arg7 harg7 arg8 harg8 arg9 harg9 x0 x1 x2 x3 x4 x5)]
  unfold kernelRun0_A
  dsimp only
  sl_unfold_run_names
  rw [View.canon_unit_zero hz]
  simp only [View.readAt_eq_ld, harg3.read_unread, harg4.read_unread, harg5.read_unread, harg6.read_unread, harg7.read_unread, harg8.read_unread, View.ld_unit_zero (S := S128x128) hz, View.ld_unit_zero (S := S4x64) hz, View.ld_unit_zero (S := S1x128) hz, View.ld_unit_zero (S := S1x1x256) hz3]
  have hoff : k0_off3 i = ![256 * ((i 2).val / 2), 0] := by
    rw [k0_off3_eq, show (128 * (i 2).val + 127) / 256 = (i 2).val / 2 by omega]
  refine last_step (i 2).val hq _ ?hword h0 h1 hs' hs hw _ ?_ _ _ (ld_rows x1 _ _ _ hoff _) (ld_rows x2 _ _ _ hoff _) _ x5 r d
  case hword =>
    clear * -
    generalize i 2 = z
    revert z
    change ∀ z : Fin 16, _
    decide +kernel
  rw [st2_eq]
  exact st1_last _ c _ i arg3 harg3 arg4 harg4 arg5 harg5 arg6 harg6 arg7 harg7 arg8 harg8 arg9 harg9 _ _ _ _ _ _ _ h0 h1 hs' hs hw _ (trips1 i)

end Body

end Cert.KernelIdeal.DiffBody

end
-- ==== Proof.DiffArray.lean ====
/-
  The attention kernel's result array, over the extended reals: which rows and lanes of the projections each grid point reads and
  writes, and so what the array holds after the last point.
-/
module

public import proofs.«01_k».proof.Proof.DiffBody
public import Idealize.ShloMosaic.Lib.Pipeline.Value
public import Idealize.ShloMosaic.Lib.StableHlo.ReadAt

@[expose] public section

set_option maxRecDepth 16384

noncomputable section

namespace Cert.KernelIdeal.DiffArray

open Cert.KernelIdeal Cert.KernelIdeal.Gen Cert.KernelIdeal.Value Cert.KernelIdeal.DiffPay Cert.KernelIdeal.DiffBody Cert.SoftmaxMath
open Idealize.ShloMosaic Idealize.ShloMosaic.TcCoe Idealize.SL.Sem
open Idealize.ShloMosaic.Pipeline (Dat)

/-- The query tile's block index: batch row and tile, and the head's lanes. -/
theorem tr0 (i : grid0.Coords) : cc0_transform_0 i 0 = (i 0).val * 16 + (i 2).val ∧ cc0_transform_0 i 1 = 24 + (i 1).val := by
  have h1 : ∀ a b : Fin 16, (Scalar.addi (Scalar.muli (BitVec.ofNat 32 a.val) 16#32) (BitVec.ofNat 32 b.val)).toNat = a.val * 16 + b.val := by decide +kernel
  have h2 : ∀ a : Fin 8, (Scalar.addi 24#32 (BitVec.ofNat 32 a.val)).toNat = 24 + a.val := by decide +kernel
  exact ⟨h1 (i 0) (i 2), h2 (i 1)⟩

/-- The keys' block index. -/
theorem tr1 (i : grid0.Coords) : cc0_transform_1 i 0 = (i 0).val ∧ cc0_transform_1 i 1 = 32 + (i 1).val := by
  have h1 : ∀ a : Fin 16, (BitVec.ofNat 32 a.val).toNat = a.val := by decide +kernel
  have h2 : ∀ a : Fin 8, (Scalar.addi 32#32 (BitVec.ofNat 32 a.val)).toNat = 32 + a.val := by decide +kernel
  exact ⟨h1 (i 0), h2 (i 1)⟩

/-- The values' block index. -/
theorem tr2 (i : grid0.Coords) : cc0_transform_2 i 0 = (i 0).val ∧ cc0_transform_2 i 1 = 40 + (i 1).val := by
  have h1 : ∀ a : Fin 16, (BitVec.ofNat 32 a.val).toNat = a.val := by decide +kernel
  have h2 : ∀ a : Fin 8, (Scalar.addi 40#32 (BitVec.ofNat 32 a.val)).toNat = 40 + a.val := by decide +kernel
  exact ⟨h1 (i 0), h2 (i 1)⟩

/-- The slopes' block index: the head. -/
theorem tr3 (i : grid0.Coords) : cc0_transform_3 i 0 = (i 1).val ∧ cc0_transform_3 i 1 = 0 ∧ cc0_transform_3 i 2 = 0 := by
  have h1 : ∀ a : Fin 8, (BitVec.ofNat 32 a.val).toNat = a.val := by decide +kernel
  exact ⟨h1 (i 1), rfl, rfl⟩

/-- The result's block index. -/
theorem tr6 (i : grid0.Coords) : cc0_transform_6 i 0 = (i 0).val * 16 + (i 2).val ∧ cc0_transform_6 i 1 = (i 1).val := by
  have h1 : ∀ a b : Fin 16, (Scalar.addi (Scalar.muli (BitVec.ofNat 32 a.val) 16#32) (BitVec.ofNat 32 b.val)).toNat = a.val * 16 + b.val := by decide +kernel
  have h2 : ∀ a : Fin 8, (BitVec.ofNat 32 a.val).toNat = a.val := by decide +kernel
  exact ⟨h1 (i 0) (i 2), h2 (i 1)⟩

/-- The projections' rows and lanes a block of shape `s` reads: rows from `r₀`, lanes from `l₀`. -/
def cutBlk {s : Shape} (X : Vec Ideal S32768x6144 .bf16) (r l : s.Idx → ℕ) : s.Idx → EReal := fun i =>
  if h : r i < 32768 ∧ l i < 6144 then X (ix2 ⟨r i, h.1⟩ ⟨l i, h.2⟩) else 0

theorem cutBlk_at {s : Shape} (X : Vec Ideal S32768x6144 .bf16) (r l : s.Idx → ℕ) (i : s.Idx) (hr : r i < 32768) (hl : l i < 6144) :
    cutBlk X r l i = X (ix2 ⟨r i, hr⟩ ⟨l i, hl⟩) := dif_pos ⟨hr, hl⟩

/-- The query block of batch row `b`, head `h`, tile `q`. -/
def qBlk (X : Vec Ideal S32768x6144 .bf16) (b h q : ℕ) : Vec Ideal S128x128 .bf16 :=
  cutBlk X (fun i => (b * 16 + q) * 128 + (i 0).val) (fun i => (24 + h) * 128 + (i 1).val)

/-- The 2048 keys, or the values, of batch row `b`, from lane block `o`. -/
def kvBlk (X : Vec Ideal S32768x6144 .bf16) (b o : ℕ) : Vec Ideal S2048x128 .bf16 :=
  cutBlk X (fun i => b * 2048 + (i 0).val) (fun i => o * 128 + (i 1).val)

/-- A head's slope: `2 ^ (-8 (h + 1) / 8)`, as the host computes it. -/
def slopeOf (h : ℕ) : EReal :=
  Ideal.pow (Ideal.ofBits .f32 0x40000000#32)
    (Ideal.div (Ideal.ofBits .f32 0xC1000000#32 * ((((BitVec.ofNat 32 h).toInt : ℝ) : EReal) + 1)) (Ideal.ofBits .f32 0x41000000#32))

/-- A gain over 128 lanes as one row. -/
def rowOf (g : Vec Ideal S128 .f32) : Vec Ideal S1x128 .f32 := fun i => g (ix1 (i 1))

section
variable (m : (ℓ : Loc nD τ sig) → Buf (Elt Ideal) ℓ)

theorem iblk0 (c : Dev nD) (t : Fin cfg0.N) :
    (iblk m c 0 t : Vec Ideal S128x128 .bf16)
      = qBlk (m ((c : Thread nD τ).loc main_arg0)) (grid0.coords t 0).val (grid0.coords t 1).val (grid0.coords t 2).val := by
  funext j
  have hb : (grid0.coords t 0).val < 16 := (grid0.coords t 0).isLt
  have hh : (grid0.coords t 1).val < 8 := (grid0.coords t 1).isLt
  have hq : (grid0.coords t 2).val < 16 := (grid0.coords t 2).isLt
  have h0 : (j 0).val < 128 := (j 0).isLt
  have h1 : (j 1).val < 128 := (j 1).isLt
  have hi := tr0 (grid0.coords t)
  refine Eq.trans ?_ (cutBlk_at _ _ _ j (by show (_ * 16 + _) * 128 + _ < _; omega) (by show (24 + _) * 128 + _ < _; omega)).symm
  unfold iblk
  rw [View.read_apply]
  show V m c main_arg0 _ = m ((c : Thread nD τ).loc main_arg0) _
  rw [V_main_arg0]
  congr 1
  funext a
  apply Fin.ext
  match a with
  | ⟨0, _⟩ => show cc0_transform_0 (grid0.coords t) 0 * 128 + 1 * (j 0).val = _ * 128 + (j 0).val; rw [hi.1]; omega
  | ⟨1, _⟩ => show cc0_transform_0 (grid0.coords t) 1 * 128 + 1 * (j 1).val = _ * 128 + (j 1).val; rw [hi.2]; omega

theorem iblk1 (c : Dev nD) (t : Fin cfg0.N) :
    (iblk m c 1 t : Vec Ideal S2048x128 .bf16) = kvBlk (m ((c : Thread nD τ).loc main_arg0)) (grid0.coords t 0).val (32 + (grid0.coords t 1).val) := by
  funext j
  have hb : (grid0.coords t 0).val < 16 := (grid0.coords t 0).isLt
  have hh : (grid0.coords t 1).val < 8 := (grid0.coords t 1).isLt
  have h0 : (j 0).val < 2048 := (j 0).isLt
  have h1 : (j 1).val < 128 := (j 1).isLt
  have hi := tr1 (grid0.coords t)
  refine Eq.trans ?_ (cutBlk_at _ _ _ j (by show _ * 2048 + _ < _; omega) (by show (32 + _) * 128 + _ < _; omega)).symm
  unfold iblk
  rw [View.read_apply]
  show V m c main_arg0 _ = m ((c : Thread nD τ).loc main_arg0) _
  rw [V_main_arg0]
  congr 1
  funext a
  apply Fin.ext
  match a with
  | ⟨0, _⟩ => show cc0_transform_1 (grid0.coords t) 0 * 2048 + 1 * (j 0).val = _ * 2048 + (j 0).val; rw [hi.1]; omega
  | ⟨1, _⟩ => show cc0_transform_1 (grid0.coords t) 1 * 128 + 1 * (j 1).val = _ * 128 + (j 1).val; rw [hi.2]; omega

theorem iblk2 (c : Dev nD) (t : Fin cfg0.N) :
    (iblk m c 2 t : Vec Ideal S2048x128 .bf16) = kvBlk (m ((c : Thread nD τ).loc main_arg0)) (grid0.coords t 0).val (40 + (grid0.coords t 1).val) := by
  funext j
  have hb : (grid0.coords t 0).val < 16 := (grid0.coords t 0).isLt
  have hh : (grid0.coords t 1).val < 8 := (grid0.coords t 1).isLt
  have h0 : (j 0).val < 2048 := (j 0).isLt
  have h1 : (j 1).val < 128 := (j 1).isLt
  have hi := tr2 (grid0.coords t)
  refine Eq.trans ?_ (cutBlk_at _ _ _ j (by show _ * 2048 + _ < _; omega) (by show (40 + _) * 128 + _ < _; omega)).symm
  unfold iblk
  rw [View.read_apply]
  show V m c main_arg0 _ = m ((c : Thread nD τ).loc main_arg0) _
  rw [V_main_arg0]
  congr 1
  funext a
  apply Fin.ext
  match a with
  | ⟨0, _⟩ => show cc0_transform_2 (grid0.coords t) 0 * 2048 + 1 * (j 0).val = _ * 2048 + (j 0).val; rw [hi.1]; omega
  | ⟨1, _⟩ => show cc0_transform_2 (grid0.coords t) 1 * 128 + 1 * (j 1).val = _ * 128 + (j 1).val; rw [hi.2]; omega

/-- The slopes the kernel is handed: row `h` holds head `h`'s slope in every lane. -/
theorem slopes_at (c : Dev nD) (h : Fin 8) (j : Fin 256) : V m c main_v10 (ix3 h 0 j) = slopeOf h.val := by
  unfold V
  after_reads_at
  rfl

/-- The gain the kernel is handed is the argument as one row. -/
theorem gain_at (c : Dev nD) (j : Fin 128) : V m c main_v11 (ix2 0 j) = m ((c : Thread nD τ).loc main_arg2) (ix1 j) := by
  unfold V
  after_reads_at

theorem iblk3 (c : Dev nD) (t : Fin cfg0.N) (j : Fin 256) :
    (iblk m c 3 t : Vec Ideal S1x1x256 .f32) (ix3 0 0 j) = slopeOf (grid0.coords t 1).val := by
  have hi := tr3 (grid0.coords t)
  unfold iblk
  rw [View.read_apply]
  refine Eq.trans ?_ (slopes_at m c ⟨(grid0.coords t 1).val, (grid0.coords t 1).isLt⟩ j)
  show V m c main_v10 _ = V m c main_v10 _
  congr 1
  funext a
  apply Fin.ext
  match a with
  | ⟨0, _⟩ => show cc0_transform_3 (grid0.coords t) 0 * 1 + 1 * 0 = (grid0.coords t 1).val; rw [hi.1]; omega
  | ⟨1, _⟩ => show cc0_transform_3 (grid0.coords t) 1 * 1 + 1 * 0 = 0; rw [hi.2.1]
  | ⟨2, _⟩ => show cc0_transform_3 (grid0.coords t) 2 * 256 + 1 * j.val = j.val; rw [hi.2.2]; omega

theorem iblk4 (c : Dev nD) (t : Fin cfg0.N) : (iblk m c 4 t : Vec Ideal S4x64 .f32) = m ((c : Thread nD τ).loc main_arg1) := by
  funext j
  unfold iblk
  rw [View.read_apply]
  show V m c main_arg1 _ = m ((c : Thread nD τ).loc main_arg1) _
  rw [V_main_arg1]
  congr 1
  funext a
  apply Fin.ext
  match a with
  | ⟨0, _⟩ => show 0 * 4 + 1 * (j 0).val = (j 0).val; omega
  | ⟨1, _⟩ => show 0 * 64 + 1 * (j 1).val = (j 1).val; omega

theorem iblk5 (c : Dev nD) (t : Fin cfg0.N) : (iblk m c 5 t : Vec Ideal S1x128 .f32) = rowOf (m ((c : Thread nD τ).loc main_arg2)) := by
  funext j
  unfold iblk
  rw [View.read_apply]
  refine Eq.trans ?_ (gain_at m c (j 1))
  show V m c main_v11 _ = V m c main_v11 _
  congr 1
  funext a
  apply Fin.ext
  match a with
  | ⟨0, _⟩ =>
    have h0 : (j 0).val < 1 := (j 0).isLt
    show 0 * 1 + 1 * (j 0).val = 0; omega
  | ⟨1, _⟩ => show 0 * 128 + 1 * (j 1).val = (j 1).val; omega

/-- What the result array holds at row `n`, lane `l`: the body's value at the tile, head and place that row and lane lie in. -/
def result (c : Dev nD) : Buf (Elt Ideal) ((c : Thread nD τ).loc main_v12) := fun (i : S32768x1024.Idx) =>
  outAt ((i 0).val % 2048 / 128) (qBlk (m ((c : Thread nD τ).loc main_arg0)) ((i 0).val / 2048) ((i 1).val / 128) ((i 0).val % 2048 / 128))
    (kvBlk (m ((c : Thread nD τ).loc main_arg0)) ((i 0).val / 2048) (32 + (i 1).val / 128))
    (kvBlk (m ((c : Thread nD τ).loc main_arg0)) ((i 0).val / 2048) (40 + (i 1).val / 128))
    (slopeOf ((i 1).val / 128)) (k0_pay26 (F := Ideal) (m ((c : Thread nD τ).loc main_arg1)) (ix2 0 0)) (rowOf (m ((c : Thread nD τ).loc main_arg2)))
    ⟨(i 0).val % 128, Nat.mod_lt _ (by decide)⟩ ⟨(i 1).val % 128, Nat.mod_lt _ (by decide)⟩

/-- The projections hold reals. -/
def RealX : Prop := ∀ (c : Dev nD) (i : S32768x6144.Idx), ∃ r : ℝ, (m ((c : Thread nD τ).loc main_arg0) : Vec Ideal S32768x6144 .bf16) i = (r : EReal)

theorem cutBlk_real {s : Shape} (X : Vec Ideal S32768x6144 .bf16) (hX : ∀ i, ∃ r : ℝ, X i = (r : EReal)) (r l : s.Idx → ℕ) (i : s.Idx) :
    ∃ x : ℝ, cutBlk X r l i = (x : EReal) := by
  unfold cutBlk
  split_ifs
  · exact hX _
  · exact ⟨0, rfl⟩

theorem real_div_pos {x : EReal} {y : ℝ} (hx : ∃ r : ℝ, x = r) (hy : y ≠ 0) : ∃ r : ℝ, Ideal.div x (y : EReal) = r := by
  obtain ⟨r, rfl⟩ := hx
  exact ⟨_, by rw [Ideal.div_coe hy, ← EReal.coe_mul]⟩

/-- A slope is a real. -/
theorem slope_real (h : ℕ) : ∃ r : ℝ, slopeOf h = (r : EReal) := by
  have e2 : Ideal.ofBits .f32 0x40000000#32 = ((2 : ℝ) : EReal) := by simp [Ideal.ofBits, Ideal.ieee, -EReal.coe_mul]; norm_num
  have e8 : Ideal.ofBits .f32 0x41000000#32 = ((8 : ℝ) : EReal) := by simp [Ideal.ofBits, Ideal.ieee, -EReal.coe_mul]; norm_num
  have en : Ideal.ofBits .f32 0xC1000000#32 = ((-8 : ℝ) : EReal) := by simp [Ideal.ofBits, Ideal.ieee, -EReal.coe_mul, -EReal.coe_neg]; norm_num
  unfold slopeOf
  rw [e2, e8, en, ← EReal.coe_one, ← EReal.coe_add, ← EReal.coe_mul]
  obtain ⟨r, hr⟩ := real_div_pos (x := ((-8 * (((BitVec.ofNat 32 h).toInt : ℝ) + 1) : ℝ) : EReal)) ⟨_, rfl⟩ (show (8 : ℝ) ≠ 0 by norm_num)
  rw [hr, Ideal.pow_coe_coe]
  exact ⟨_, rfl⟩

/-- What point `t` writes back is its block of `result`. -/
theorem flushed_eq (hX : RealX m) (c : Dev nD) (t : Fin cfg0.N) :
    (dats m 0 c).flushed 6 t = ((cfg0.win 6).blk t).view.read (Elt Ideal) (result m c) := by
  have hb : (grid0.coords t 0).val < 16 := (grid0.coords t 0).isLt
  have hh : (grid0.coords t 1).val < 8 := (grid0.coords t 1).isLt
  have hq : (grid0.coords t 2).val < 16 := (grid0.coords t 2).isLt
  have hi := tr6 (grid0.coords t)
  rw [flushed6_A]
  funext j
  rw [View.read_apply]
  have h0 : (j 0).val < 128 := (j 0).isLt
  have h1 : (j 1).val < 128 := (j 1).isLt
  choose w hw using fun i => cutBlk_real (s := S2048x128) (m ((c : Thread nD τ).loc main_arg0)) (hX c)
    (fun i => (grid0.coords t 0).val * 2048 + (i 0).val) (fun i => (40 + (grid0.coords t 1).val) * 128 + (i 1).val) i
  have key := out0_at (w := fun d j => w (ix2 j d)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (x0 := iblk m c 0 t) (x1 := iblk m c 1 t) (x2 := iblk m c 2 t) (x3 := iblk m c 3 t) (s := slopeOf (grid0.coords t 1).val) (iblk m c 4 t) (iblk m c 5 t)
    (by rw [iblk0]; exact cutBlk_real _ (hX c) _ _) (by rw [iblk1]; exact cutBlk_real _ (hX c) _ _) (slope_real _)
    (iblk3 m c t) (fun d j => by rw [iblk2]; exact hw _) ⟨(j 0).val, h0⟩ ⟨(j 1).val, h1⟩
  rw [iblk0, iblk1, iblk2, iblk4, iblk5] at key
  refine Eq.trans ?_ (key.trans ?_)
  · show out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) (iblk m c 4 t) (iblk m c 5 t) _ = _
    rw [iblk0, iblk1, iblk2, iblk4, iblk5]
    congr 1
    funext a
    match a with
    | ⟨0, _⟩ => rfl
    | ⟨1, _⟩ => rfl
  · have e0 : ((((cfg0.win 6).blk t).view.emb j) 0).val = ((grid0.coords t 0).val * 16 + (grid0.coords t 2).val) * 128 + (j 0).val := by
      show cc0_transform_6 (grid0.coords t) 0 * 128 + 1 * (j 0).val = _
      rw [hi.1]; omega
    have e1 : ((((cfg0.win 6).blk t).view.emb j) 1).val = (grid0.coords t 1).val * 128 + (j 1).val := by
      show cc0_transform_6 (grid0.coords t) 1 * 128 + 1 * (j 1).val = _
      rw [hi.2]; omega
    show _ = result m c (((cfg0.win 6).blk t).view.emb j)
    unfold result
    simp only [e0, e1]
    have a1 : (((grid0.coords t 0).val * 16 + (grid0.coords t 2).val) * 128 + (j 0).val) % 2048 / 128 = (grid0.coords t 2).val := by omega
    have a2 : (((grid0.coords t 0).val * 16 + (grid0.coords t 2).val) * 128 + (j 0).val) / 2048 = (grid0.coords t 0).val := by omega
    have a3 : (((grid0.coords t 0).val * 16 + (grid0.coords t 2).val) * 128 + (j 0).val) % 128 = (j 0).val := by omega
    have a4 : ((grid0.coords t 1).val * 128 + (j 1).val) / 128 = (grid0.coords t 1).val := by omega
    have a5 : ((grid0.coords t 1).val * 128 + (j 1).val) % 128 = (j 1).val := by omega
    simp only [a1, a2, a3, a4, a5]

/-- So the array ends holding `result`: every row and lane lies in one point's block. -/
theorem final (hX : RealX m) (c : Dev nD) : (dats m 0 c).arrAt 6 cfg0.N = result m c :=
  (dats m 0 c).arrAt_eq_of_cover 6 (result m c) (fun t _ => flushed_eq m hX c t) fun i => by
    have hi0 : (i 0).val < 32768 := (i 0).isLt
    have hi1 : (i 1).val < 1024 := (i 1).isLt
    obtain ⟨t, ht⟩ : ∃ t : Fin cfg0.N, (grid0.coords t 0).val = (i 0).val / 2048 ∧ (grid0.coords t 1).val = (i 1).val / 128
        ∧ (grid0.coords t 2).val = (i 0).val % 2048 / 128 := by
      refine ⟨⟨((i 0).val / 2048 * 8 + (i 1).val / 128) * 16 + (i 0).val % 2048 / 128, ?_⟩, ?_, ?_, ?_⟩
      · show _ < 2048
        omega
      · show (((i 0).val / 2048 * 8 + (i 1).val / 128) * 16 + (i 0).val % 2048 / 128) / 128 % 16 = _
        omega
      · show (((i 0).val / 2048 * 8 + (i 1).val / 128) * 16 + (i 0).val % 2048 / 128) / 16 % 8 = _
        omega
      · show (((i 0).val / 2048 * 8 + (i 1).val / 128) * 16 + (i 0).val % 2048 / 128) / 1 % 16 = _
        omega
    refine ⟨t, flush0_6 t, ?_⟩
    show i ∈ ((View.whole main_v12).slice (win0_6.rect t)).set
    rw [View.set_slice_whole, Rect.mem_set_unit]
    have hi := tr6 (grid0.coords t)
    intro a
    match a with
    | ⟨0, _⟩ =>
      show cc0_transform_6 (grid0.coords t) 0 * 128 ≤ (i 0 : Nat) ∧ (i 0 : Nat) < cc0_transform_6 (grid0.coords t) 0 * 128 + 128
      rw [hi.1]; omega
    | ⟨1, _⟩ =>
      show cc0_transform_6 (grid0.coords t) 1 * 128 ≤ (i 1 : Nat) ∧ (i 1 : Nat) < cc0_transform_6 (grid0.coords t) 1 * 128 + 128
      rw [hi.2]; omega

end

end Cert.KernelIdeal.DiffArray

end
-- ==== Proof.DiffRef.lean ====
/-
  The reference at an index, over the extended reals: the differential attention as it is written, head by head.
-/
module

public import proofs.«01_k».proof.Proof.Gen.ReferenceIdeal.Read
public import proofs.«01_k».proof.Proof.SoftmaxMath
public import Idealize.ShloMosaic.Lib.Pointwise

@[expose] public section

set_option maxRecDepth 16384

noncomputable section

namespace Cert.ReferenceIdeal.DiffRef

open Cert.ReferenceIdeal Cert.ReferenceIdeal.Gen Cert.ReferenceIdeal.Read Cert.SoftmaxMath Idealize.ShloMosaic

variable (X : Vec Ideal S32768x6144 .bf16) (L : Vec Ideal S4x64 .f32) (g : Vec Ideal S128 .f32)

/-- The projections at row `n`, lane `l`. -/
def xat (n l : ℕ) : EReal := if h : n < 32768 ∧ l < 6144 then X (ix2 ⟨n, h.1⟩ ⟨l, h.2⟩) else 0

/-- An index read by its two coordinates. -/
theorem xat_of (n l : ℕ) (i : S32768x6144.Idx) (h0 : (i 0).val = n) (h1 : (i 1).val = l) : X i = xat X n l := by
  subst h0 h1
  refine Eq.trans ?_ (dif_pos ⟨(i 0).isLt, (i 1).isLt⟩).symm
  congr 1
  funext a
  match a with
  | ⟨0, _⟩ => rfl
  | ⟨1, _⟩ => rfl

/-- A query lane of map `c`. -/
theorem q_at (b : Fin 16) (h : Fin 8) (c : Fin 2) (s : Fin 2048) (d : Fin 64) :
    val_main_v4 (F := Ideal) X (ix5 b h c s d) = xat X (b.val * 2048 + s.val) (3072 + (h.val * 128 + c.val * 64 + d.val)) := by
  rw [val_main_v4_apply, val_main_v3_apply, val_main_v2_apply, val_main_v1_apply, val_main_v0_apply]
  refine xat_of X _ _ _ ?_ ?_
  · dsimp [ix5]; omega
  · dsimp [ix5]; omega

/-- A key lane of map `c`. -/
theorem k_at (b : Fin 16) (h : Fin 8) (c : Fin 2) (s : Fin 2048) (d : Fin 64) :
    val_main_v7 (F := Ideal) X (ix5 b h c s d) = xat X (b.val * 2048 + s.val) (4096 + (h.val * 128 + c.val * 64 + d.val)) := by
  rw [val_main_v7_apply, val_main_v6_apply, val_main_v5_apply, val_main_v1_apply, val_main_v0_apply]
  refine xat_of X _ _ _ ?_ ?_
  · dsimp [ix5]; omega
  · dsimp [ix5]; omega

/-- A value lane. -/
theorem v_at (b : Fin 16) (h : Fin 8) (s : Fin 2048) (d : Fin 128) :
    val_main_v10 (F := Ideal) X (ix4 b h s d) = xat X (b.val * 2048 + s.val) (5120 + (h.val * 128 + d.val)) := by
  rw [val_main_v10_apply, val_main_v9_apply, val_main_v8_apply, val_main_v1_apply, val_main_v0_apply]
  refine xat_of X _ _ _ ?_ ?_
  · dsimp [ix4]; omega
  · dsimp [ix4]; omega

/-- The head's slope, as the reference computes it. -/
def slopeR (h : ℕ) : EReal :=
  Ideal.pow (Ideal.ofBits .f32 0x40000000#32)
    (Ideal.div (Ideal.ofBits .f32 0xC1000000#32 * ((((BitVec.ofNat 32 h).toInt : ℝ) : EReal) + 1)) (Ideal.ofBits .f32 0x41000000#32))

/-- The slopes' array. -/
theorem slope_at (h : Fin 8) : val_main_v35 (F := Ideal) (ix1 h) = slopeR h.val := by
  pointwise [val_main_v35, val_main_v34, val_main_v33, val_main_v32, val_main_v31, val_main_v30, val_main_v29, val_main_v28, val_main_v27, val_main_cst_2, val_main_cst_3, val_main_cst_4, val_main_cst_5]
  rfl

/-- The weight of the second map. -/
def lamR : EReal := Ideal.exp (∑ x : Fin 64, L (ix2 0 x) * L (ix2 1 x)) - Ideal.exp (∑ x : Fin 64, L (ix2 2 x) * L (ix2 3 x)) + Ideal.ofBits .f32 0x3E4CCCCD#32

/-- The second map's weight, as the reference computes it. -/
theorem lam_at (i : S_.Idx) : val_main_v26 (F := Ideal) L i = lamR L := by
  pointwise [val_main_v26, val_main_v25, val_main_v24, val_main_v23, val_main_v22, val_main_v21, val_main_v20, val_main_v19, val_main_v18, val_main_v17, val_main_v16, val_main_v15, val_main_v14, val_main_v13, val_main_v12, val_main_v11, val_main_cst, val_main_cst_0, val_main_cst_1]
  rfl

/-- The masked score, from the queries and keys. -/
theorem z_at (b : Fin 16) (h : Fin 8) (c : Fin 2) (s t : Fin 2048) : val_main_v55 (F := Ideal) X (ix5 b h c s t) =
  Scalar.select (IntOp.cmpi CmpIPredicate.sge (IntOp.subi (BitVec.ofNat 32 s) (BitVec.ofNat 32 t)) 0#32)
      ((∑ x : Fin 64, val_main_v4 (F := Ideal) X (ix5 b h c s x) * val_main_v7 (F := Ideal) X (ix5 b h c t x)) * Ideal.ofBits FTy.f32 0x3E000000#32 -
        val_main_v35 (F := Ideal) (ix1 h) * (((IntOp.subi (BitVec.ofNat 32 s) (BitVec.ofNat 32 t)).toInt : ℝ) : EReal))
      (Ideal.ofBits FTy.f32 0xFF800000#32) := by
  rw [val_main_v55_apply, val_main_v52_apply, val_main_v51_apply, val_main_v50_apply, val_main_v45_apply, val_main_v43_apply, val_main_v48_apply, val_main_v36_apply, val_main_v44_apply, val_main_v49_apply, val_main_v47_apply, val_main_v46_apply]
  rw [val_main_call0_v1_apply, val_main_call0_v2_apply, val_main_v54_apply, val_main_v53_apply]
  generalize val_main_v4 (F := Ideal) X = Q
  generalize val_main_v7 (F := Ideal) X = K
  generalize val_main_v35 (F := Ideal) = S
  have e1 : ∀ k, lidx_main_v43 (ix5 b h c s t) k = ix5 b h c s k := fun k => funext fun a => match a with
    | ⟨0, _⟩ => rfl | ⟨1, _⟩ => rfl | ⟨2, _⟩ => rfl | ⟨3, _⟩ => rfl | ⟨4, _⟩ => rfl
  have e2 : ∀ k, ridx_main_v43 (ix5 b h c s t) k = ix5 b h c t k := fun k => funext fun a => match a with
    | ⟨0, _⟩ => rfl | ⟨1, _⟩ => rfl | ⟨2, _⟩ => rfl | ⟨3, _⟩ => rfl | ⟨4, _⟩ => rfl
  have e3 : idx_main_v36 (idx_main_v48 (idx_main_v51 (ix5 b h c s t))) = ix1 h := funext fun a => match a with
    | ⟨0, _⟩ => rfl
  have e4 : ∀ i : S2048x2048.Idx, val_main_v42 (F := Ideal) i = IntOp.subi (BitVec.ofNat 32 (i 0).val) (BitVec.ofNat 32 (i 1).val) := fun i => rfl
  simp only [e1, e2, e3, e4]
  rfl

/-- The host's maximum over one axis, from `⊥`, is the supremum over that axis. -/
theorem hostMax_single {s t u : Shape} {a : Fin s.rank} (h' : s.ReducesTo [a] t) (h : s.Reduces [a] t) (hu : 0 < u.numel) (x : FVec Ideal s .f32)
    (init : FVec Ideal u .f32) (hi : init (Shape.Idx.first hu) = ⊥) (j : t.Idx) :
    Host.reduce (FloatOps.maximumf (F := Ideal) (φ := .f32)) x init h' hu j = Finset.univ.sup fun k : Fin (s.size a) => x (h.lift j k) := by
  show Host.reduce (max : EReal → EReal → EReal) x init h' hu j = _
  rw [Host.reduce_eq_fold_single max x init h' h hu j, hi]
  rfl

/-- The softmax's maximum is the supremum over the keys. -/
theorem max_at (b : Fin 16) (h : Fin 8) (c : Fin 2) (s : Fin 2048) : val_main_v58 (F := Ideal) X (ix4 b h c s) =
    Finset.univ.sup fun x : Fin 2048 => val_main_v55 (F := Ideal) X (ix5 b h c s x) := by
  have ninf : Ideal.ofBits .f32 0xFF800000#32 = ⊥ := by simp [Ideal.ofBits, Ideal.ieee]
  rw [val_main_v58_apply, val_main_v57_apply]
  unfold val_main_v56
  generalize val_main_v55 (F := Ideal) X = Z
  rw [hostMax_single reducesTo_S16x8x2x2048x2048_S16x8x2x2048_d4 (by decide) h_S_ Z _ ninf]
  have hb : (val_main_cst_9 (F := Ideal)) (idx_main_v57 (ix4 b h c s)) = (⊥ : EReal) := ninf
  rw [hb]
  refine (max_eq_right bot_le).trans ?_
  refine Finset.sup_congr rfl fun k _ => ?_
  exact congrArg Z (funext fun a => Fin.ext (by match a with | ⟨0, _⟩ => rfl | ⟨1, _⟩ => rfl | ⟨2, _⟩ => rfl | ⟨3, _⟩ => rfl | ⟨4, _⟩ => rfl))

/-- One softmax weight. -/
theorem p_at (b : Fin 16) (h : Fin 8) (c : Fin 2) (s t : Fin 2048) : val_main_v66 (F := Ideal) X (ix5 b h c s t) =
  Ideal.div (Ideal.exp (val_main_v55 (F := Ideal) X (ix5 b h c s t) - val_main_v58 (F := Ideal) X (ix4 b h c s)))
    (∑ x : Fin 2048, Ideal.exp (val_main_v55 (F := Ideal) X (ix5 b h c s x) - val_main_v58 (F := Ideal) X (ix4 b h c s))) := by
  have e : ∀ x : Fin 2048, val_main_v62 (F := Ideal) X (ix5 b h c s x) = Ideal.exp (val_main_v55 (F := Ideal) X (ix5 b h c s x) - val_main_v58 (F := Ideal) X (ix4 b h c s)) := fun x => by
    rw [val_main_v62_apply, val_main_v61_apply, val_main_v60_apply, val_main_v59_apply]
    generalize val_main_v55 (F := Ideal) X = Z
    generalize val_main_v58 (F := Ideal) X = M
    have e1 : idx_main_v59 (idx_main_v60 (ix5 b h c s x)) = ix4 b h c s := funext fun a => match a with
      | ⟨0, _⟩ => rfl | ⟨1, _⟩ => rfl | ⟨2, _⟩ => rfl | ⟨3, _⟩ => rfl
    rw [e1]
    rfl
  rw [val_main_v66_apply, val_main_v65_apply, val_main_v64_apply, val_main_v63_apply]
  have e1 : ∀ k, idx_main_v63 (idx_main_v64 (idx_main_v65 (ix5 b h c s t))) k = ix5 b h c s k := fun k => funext fun a => match a with
    | ⟨0, _⟩ => rfl | ⟨1, _⟩ => rfl | ⟨2, _⟩ => rfl | ⟨3, _⟩ => rfl | ⟨4, _⟩ => rfl
  have e3 : (val_main_cst_10 (F := Ideal)) (Shape.Idx.first h_S_) = (0 : EReal) := Ideal.ofBits_zero_f32
  simp only [e1, e, e3, zero_add]
  rfl

/-- The averaged values: the difference of the two maps against the values. -/
theorem o_at (b : Fin 16) (s : Fin 2048) (h : Fin 8) (d : Fin 128) : val_main_v75 (F := Ideal) X L (ix4 b s h d) =
    ∑ t : Fin 2048, (val_main_v66 (F := Ideal) X (ix5 b h 0 s t) - val_main_v26 (F := Ideal) L ix0 * val_main_v66 (F := Ideal) X (ix5 b h 1 s t)) * val_main_v10 (F := Ideal) X (ix4 b h t d) := by
  rw [val_main_v75_apply, val_main_v74_apply]
  refine Finset.sum_congr rfl fun t _ => ?_
  rw [val_main_v73_apply, val_main_v72_apply, val_main_v71_apply, val_main_v70_apply, val_main_v69_apply, val_main_v68_apply, val_main_v67_apply]
  generalize val_main_v66 (F := Ideal) X = P
  generalize val_main_v10 (F := Ideal) X = V
  generalize val_main_v26 (F := Ideal) L = lm
  have e1 : idx_main_v67 (idx_main_v68 (lidx_main_v74 (idx_main_v75 (ix4 b s h d)) t)) = ix5 b h 0 s t := funext fun a => Fin.ext (by match a with
    | ⟨0, _⟩ => dsimp [ix4, ix5]; omega
    | ⟨1, _⟩ => dsimp [ix4, ix5]; omega
    | ⟨2, _⟩ => rfl
    | ⟨3, _⟩ => dsimp [ix4, ix5]; omega
    | ⟨4, _⟩ => dsimp [ix4, ix5]; omega)
  have e2 : idx_main_v69 (idx_main_v70 (lidx_main_v74 (idx_main_v75 (ix4 b s h d)) t)) = ix5 b h 1 s t := funext fun a => Fin.ext (by match a with
    | ⟨0, _⟩ => dsimp [ix4, ix5]; omega
    | ⟨1, _⟩ => dsimp [ix4, ix5]; omega
    | ⟨2, _⟩ => rfl
    | ⟨3, _⟩ => dsimp [ix4, ix5]; omega
    | ⟨4, _⟩ => dsimp [ix4, ix5]; omega)
  have e3 : ridx_main_v74 (idx_main_v75 (ix4 b s h d)) t = ix4 b h t d := funext fun a => match a with
    | ⟨0, _⟩ => rfl | ⟨1, _⟩ => rfl | ⟨2, _⟩ => rfl | ⟨3, _⟩ => rfl
  have e4 : ∀ i : S_.Idx, i = ix0 := fun i => funext fun a => a.elim0
  rw [e1, e2, e3, e4 (idx_main_v71 _)]
  rfl

/-- The end: root mean square over the 128 lanes, the gain, the constant 0.8. -/
theorem out_at (b : Fin 16) (s : Fin 2048) (h : Fin 8) (d : Fin 128) : val_main_v90 (F := Ideal) X L g (ix4 b s h d) =
    val_main_v75 (F := Ideal) X L (ix4 b s h d) * Ideal.rsqrt (Ideal.div (∑ x : Fin 128, val_main_v75 (F := Ideal) X L (ix4 b s h x) * val_main_v75 (F := Ideal) X L (ix4 b s h x)) (Ideal.ofBits .f32 0x43000000#32) + Ideal.ofBits .f32 0x358637BD#32)
      * g (ix1 d) * Ideal.ofBits .f32 0x3F4CCCCD#32 := by
  rw [val_main_v90_apply, val_main_v88_apply, val_main_v85_apply, val_main_v84_apply, val_main_v83_apply, val_main_v82_apply, val_main_v80_apply, val_main_v78_apply, val_main_v77_apply, val_main_v87_apply, val_main_v86_apply]
  have es : ∀ x : Fin 128, val_main_v76 (F := Ideal) X L (ix4 b s h x) = val_main_v75 (F := Ideal) X L (ix4 b s h x) * val_main_v75 (F := Ideal) X L (ix4 b s h x) := fun x => by rw [val_main_v76_apply]; rfl
  have e1 : ∀ k, idx_main_v77 (idx_main_v78 (idx_main_v84 (ix4 b s h d))) k = ix4 b s h k := fun k => funext fun a => match a with
    | ⟨0, _⟩ => rfl | ⟨1, _⟩ => rfl | ⟨2, _⟩ => rfl | ⟨3, _⟩ => rfl
  have e2 : idx_main_v86 (idx_main_v87 (ix4 b s h d)) = ix1 d := funext fun a => match a with
    | ⟨0, _⟩ => rfl
  have e3 : (val_main_cst_11 (F := Ideal)) (Shape.Idx.first h_S_) = (0 : EReal) := Ideal.ofBits_zero_f32
  rw [e2, e3, zero_add]
  have e4 : ∀ i, val_main_v79 (F := Ideal) i = Ideal.ofBits .f32 0x43000000#32 := fun i => by rw [val_main_v79_apply]; rfl
  have e5 : ∀ i, val_main_v81 (F := Ideal) i = Ideal.ofBits .f32 0x358637BD#32 := fun i => by rw [val_main_v81_apply]; rfl
  have e6 : ∀ i, val_main_v89 (F := Ideal) i = Ideal.ofBits .f32 0x3F4CCCCD#32 := fun i => by rw [val_main_v89_apply]; rfl
  simp only [e1, es, e4, e5, e6]
  rfl

end Cert.ReferenceIdeal.DiffRef

end
-- ==== Proof.DiffEq.lean ====
/-
  The kernel's result and the reference's are one array, over the extended reals, when the projections and the lambda vectors
  hold reals.

  The reference weights the values by the difference of the two maps; the kernel averages with each map and takes the difference
  of the averages. On reals the two agree.
-/
module

public import proofs.«01_k».proof.Proof.DiffArray
public import proofs.«01_k».proof.Proof.DiffRef

@[expose] public section

set_option maxRecDepth 16384

noncomputable section

namespace Cert.DiffEq

open Cert.KernelIdeal.DiffPay Cert.KernelIdeal.DiffBody Cert.KernelIdeal.DiffArray Cert.KernelIdeal.DiffWords Cert.ReferenceIdeal.DiffRef Cert.SoftmaxMath
open Cert.KernelIdeal (S32768x6144 S4x64 S128 S128x128 S2048x128)
open Idealize.ShloMosaic

/-- A sum over 128 lanes, as the two halves' sums. -/
theorem sum_halves (f : Fin 128 → EReal) :
    ∑ t : Fin 128, f t = ∑ x : Fin 64, f ⟨x.val, by omega⟩ + ∑ x : Fin 64, f ⟨64 + x.val, by omega⟩ :=
  Fin.sum_univ_add (a := 64) (b := 64) f

/-- A stacked row's product over 128 lanes is the product over its map's own 64. -/
theorem map_sum (x0 : Vec Ideal S128x128 .bf16) (x1 : Vec Ideal S2048x128 .bf16) (c : Fin 2) (r : Fin 128) (j : Fin 2048) :
    ∑ t : Fin 128, q2 x0 ⟨c.val * 128 + r.val, by omega⟩ t * x1 (ix2 j t)
      = ∑ x : Fin 64, x0 (ix2 r ⟨c.val * 64 + x.val, by omega⟩) * x1 (ix2 j ⟨c.val * 64 + x.val, by omega⟩) := by
  rw [sum_halves]
  match c with
  | 0 =>
    have e1 : ∀ x : Fin 64, q2 x0 ⟨(0 : Fin 2).val * 128 + r.val, by omega⟩ ⟨x.val, by omega⟩ = x0 (ix2 r ⟨(0 : Fin 2).val * 64 + x.val, by omega⟩) := fun x => by
      unfold q2
      rw [dif_pos (show (0 : Fin 2).val * 128 + r.val < 128 by simp), if_pos x.isLt]
      congr 1
      simp [Fin.ext_iff]
    have e2 : ∀ x : Fin 64, q2 x0 ⟨(0 : Fin 2).val * 128 + r.val, by omega⟩ ⟨64 + x.val, by omega⟩ = 0 := fun x => by
      unfold q2
      rw [dif_pos (show (0 : Fin 2).val * 128 + r.val < 128 by simp), if_neg (by simp)]
    simp only [e1, e2, zero_mul, Finset.sum_const_zero, add_zero]
    refine Finset.sum_congr rfl fun x _ => ?_
    congr 3
    simp
  | 1 =>
    have e1 : ∀ x : Fin 64, q2 x0 ⟨(1 : Fin 2).val * 128 + r.val, by omega⟩ ⟨x.val, by omega⟩ = 0 := fun x => by
      unfold q2
      rw [dif_neg (show ¬ (1 : Fin 2).val * 128 + r.val < 128 by simp), if_neg (by simp)]
    have e2 : ∀ x : Fin 64, q2 x0 ⟨(1 : Fin 2).val * 128 + r.val, by omega⟩ ⟨64 + x.val, by omega⟩ = x0 (ix2 r ⟨(1 : Fin 2).val * 64 + x.val, by omega⟩) := fun x => by
      unfold q2
      rw [dif_neg (show ¬ (1 : Fin 2).val * 128 + r.val < 128 by simp), if_pos (by simp)]
      congr 1
      simp [Fin.ext_iff]
    simp only [e1, e2, zero_mul, Finset.sum_const_zero, zero_add]
    refine Finset.sum_congr rfl fun x _ => ?_
    congr 3

/-- The distance of key `t` from query `s`, as a word read signed. -/
theorem dist_word (s t : Fin 2048) : (IntOp.subi (BitVec.ofNat 32 s.val) (BitVec.ofNat 32 t.val)).toInt = (s.val : ℤ) - (t.val : ℤ) := by
  have n : ∀ a : ℕ, BitVec.ofNat 32 a = BitVec.ofInt 32 (a : ℤ) := fun a => (BitVec.ofInt_natCast 32 a).symm
  have e : IntOp.subi (BitVec.ofNat 32 s.val) (BitVec.ofNat 32 t.val) = BitVec.ofInt 32 ((s.val : ℤ) - (t.val : ℤ)) := by
    show BitVec.ofNat 32 s.val - BitVec.ofNat 32 t.val = _
    rw [n, n, BitVec.sub_eq_add_neg, ← BitVec.ofInt_neg, ← BitVec.ofInt_add, sub_eq_add_neg]
  rw [e, toInt_small]
  omega

section
variable (X : Vec Ideal S32768x6144 .bf16) (L : Vec Ideal S4x64 .f32) (g : Vec Ideal S128 .f32)

/-- The reference's masked scores are the kernel's. -/
theorem score_eq (b : Fin 16) (h : Fin 8) (c : Fin 2) (s t : Fin 2048) :
    Cert.ReferenceIdeal.Read.val_main_v55 (F := Ideal) X (ix5 b h c s t)
      = zK (s.val / 128) (qBlk X b.val h.val (s.val / 128)) (kvBlk X b.val (32 + h.val)) (slopeOf h.val) ⟨c.val * 128 + s.val % 128, by omega⟩ t := by
  have hR : (c.val * 128 + s.val % 128) % 128 = s.val % 128 := by omega
  rw [z_at, sge_zero, dist_word, ninf, slope_at]
  unfold zK kScore
  rw [map_sum _ _ c ⟨s.val % 128, by omega⟩ t]
  simp only [hR]
  have hs : (((s.val / 128 : ℕ) : ℤ) * 128 + ((s.val % 128 : ℕ) : ℤ) - (t.val : ℤ)) = (s.val : ℤ) - (t.val : ℤ) := by omega
  have hq : ∀ x : Fin 64, Cert.ReferenceIdeal.Read.val_main_v4 (F := Ideal) X (ix5 b h c s x)
      = qBlk X b.val h.val (s.val / 128) (ix2 ⟨s.val % 128, by omega⟩ ⟨c.val * 64 + x.val, by omega⟩) := fun x => by
    rw [q_at]
    show xat X _ _ = xat X ((b.val * 16 + s.val / 128) * 128 + s.val % 128) ((24 + h.val) * 128 + (c.val * 64 + x.val))
    congr 1 <;> omega
  have hk : ∀ x : Fin 64, Cert.ReferenceIdeal.Read.val_main_v7 (F := Ideal) X (ix5 b h c t x)
      = kvBlk X b.val (32 + h.val) (ix2 t ⟨c.val * 64 + x.val, by omega⟩) := fun x => by
    rw [k_at]
    show xat X _ _ = xat X (b.val * 2048 + t.val) ((32 + h.val) * 128 + (c.val * 64 + x.val))
    congr 1; omega
  simp only [hq, hk, hs]
  by_cases ht : t.val ≤ s.val
  · rw [if_pos (show 0 ≤ (s.val : ℤ) - (t.val : ℤ) by omega), if_pos (show t.val ≤ s.val / 128 * 128 + s.val % 128 by omega)]
    rfl
  · rw [if_neg (show ¬ 0 ≤ (s.val : ℤ) - (t.val : ℤ) by omega), if_neg (show ¬ t.val ≤ s.val / 128 * 128 + s.val % 128 by omega)]
    rfl

/-- The lambda vectors' weight is a real when they hold reals. -/
theorem lam_real (hL : ∀ i, ∃ r : ℝ, L i = (r : EReal)) : ∃ r : ℝ, lamR L = (r : EReal) := by
  have e5 : ∃ r : ℝ, Ideal.ofBits .f32 0x3E4CCCCD#32 = (r : EReal) := by
    exact ⟨_, by simp [Ideal.ofBits, Ideal.ieee, -EReal.coe_mul]; rfl⟩
  obtain ⟨a, ha⟩ := real_sum (fun x : Fin 64 => L (ix2 0 x)) (fun x => L (ix2 1 x)) (fun x => hL _) (fun x => hL _)
  obtain ⟨b, hb⟩ := real_sum (fun x : Fin 64 => L (ix2 2 x)) (fun x => L (ix2 3 x)) (fun x => hL _) (fun x => hL _)
  obtain ⟨d, hd⟩ := e5
  unfold lamR
  rw [ha, hb, hd, Ideal.exp_coe, Ideal.exp_coe, ← EReal.coe_sub, ← EReal.coe_add]
  exact ⟨_, rfl⟩

/-- The averaged values: the kernel's difference of averages is the reference's average with the difference. -/
theorem avg_eq (hX : ∀ i, ∃ r : ℝ, X i = (r : EReal)) (hL : ∀ i, ∃ r : ℝ, L i = (r : EReal)) (b : Fin 16) (s : Fin 2048) (h : Fin 8) (d : Fin 128) :
    Cert.ReferenceIdeal.Read.val_main_v75 (F := Ideal) X L (ix4 b s h d)
      = softAvg (zK (s.val / 128) (qBlk X b.val h.val (s.val / 128)) (kvBlk X b.val (32 + h.val)) (slopeOf h.val) ⟨s.val % 128, by omega⟩)
            (fun j => kvBlk X b.val (40 + h.val) (ix2 j d))
          - lamR L * softAvg (zK (s.val / 128) (qBlk X b.val h.val (s.val / 128)) (kvBlk X b.val (32 + h.val)) (slopeOf h.val) ⟨128 + s.val % 128, by omega⟩)
            (fun j => kvBlk X b.val (40 + h.val) (ix2 j d)) := by
  have hv : ∀ j : Fin 2048, Cert.ReferenceIdeal.Read.val_main_v10 (F := Ideal) X (ix4 b h j d) = kvBlk X b.val (40 + h.val) (ix2 j d) := fun j => by
    rw [v_at]
    show xat X _ _ = xat X (b.val * 2048 + j.val) ((40 + h.val) * 128 + d.val)
    congr 1; omega
  have hz0 : ∀ t, Cert.ReferenceIdeal.Read.val_main_v55 (F := Ideal) X (ix5 b h 0 s t)
      = zK (s.val / 128) (qBlk X b.val h.val (s.val / 128)) (kvBlk X b.val (32 + h.val)) (slopeOf h.val) ⟨s.val % 128, by omega⟩ t := fun t => by
    rw [score_eq]
    congr 1
    simp [Fin.ext_iff]
  have hz1 : ∀ t, Cert.ReferenceIdeal.Read.val_main_v55 (F := Ideal) X (ix5 b h 1 s t)
      = zK (s.val / 128) (qBlk X b.val h.val (s.val / 128)) (kvBlk X b.val (32 + h.val)) (slopeOf h.val) ⟨128 + s.val % 128, by omega⟩ t := fun t => by
    rw [score_eq]
    congr 1
  rw [o_at]
  simp only [p_at, max_at, hz0, hz1, hv, lam_at]
  have h0 : ∀ i, ∃ r : ℝ, qBlk X b.val h.val (s.val / 128) i = (r : EReal) := cutBlk_real X hX _ _
  have h1 : ∀ i, ∃ r : ℝ, kvBlk X b.val (32 + h.val) i = (r : EReal) := cutBlk_real X hX _ _
  have h2 : ∀ i, ∃ r : ℝ, kvBlk X b.val (40 + h.val) i = (r : EReal) := cutBlk_real X hX _ _
  have top := zK_ne_top (s.val / 128) h0 h1 (slope_real h.val)
  have own : ∀ R : Fin 256, R.val % 128 = s.val % 128 → zK (s.val / 128) (qBlk X b.val h.val (s.val / 128)) (kvBlk X b.val (32 + h.val)) (slopeOf h.val) R s ≠ ⊥ := fun R hR => by
    obtain ⟨r, hr⟩ := kScore_real (s.val / 128) h0 h1 (slope_real h.val) R s
    unfold zK
    rw [if_pos (by omega), hr]
    exact EReal.coe_ne_bot r
  obtain ⟨e, he, he0⟩ := softmax_real _ (top ⟨s.val % 128, by omega⟩) s (own _ (by simp))
  obtain ⟨f, hf, hf0⟩ := softmax_real _ (top ⟨128 + s.val % 128, by omega⟩) s (own _ (by simp))
  choose w hw using h2
  obtain ⟨lm, hlm⟩ := lam_real L hL
  unfold softAvg
  simp only [he, hf, hw, hlm]
  exact diff_softmax e f (fun j => w (ix2 j d)) lm he0 hf0

/-- The kernel's weight of the second map is the reference's. -/
theorem lam_eq : Cert.KernelIdeal.Gen.k0_pay26 (F := Ideal) L (ix2 0 0) = lamR L := pay26_at L

/-- The reference's result at an index is the kernel's value there. -/
theorem ref_at (hX : ∀ i, ∃ r : ℝ, X i = (r : EReal)) (hL : ∀ i, ∃ r : ℝ, L i = (r : EReal)) (i : Cert.KernelIdeal.S32768x1024.Idx) :
    Cert.ReferenceIdeal.Read.val_main_v92 (F := Ideal) X L g i
      = outAt ((i 0).val % 2048 / 128) (qBlk X ((i 0).val / 2048) ((i 1).val / 128) ((i 0).val % 2048 / 128))
          (kvBlk X ((i 0).val / 2048) (32 + (i 1).val / 128)) (kvBlk X ((i 0).val / 2048) (40 + (i 1).val / 128))
          (slopeOf ((i 1).val / 128)) (Cert.KernelIdeal.Gen.k0_pay26 (F := Ideal) L (ix2 0 0)) (rowOf g)
          ⟨(i 0).val % 128, Nat.mod_lt _ (by decide)⟩ ⟨(i 1).val % 128, Nat.mod_lt _ (by decide)⟩ := by
  have hi0 : (i 0).val < 32768 := (i 0).isLt
  have hi1 : (i 1).val < 1024 := (i 1).isLt
  rw [Cert.ReferenceIdeal.Read.val_main_v92_apply, Cert.ReferenceIdeal.Read.val_main_v91_apply]
  have e : Cert.ReferenceIdeal.Read.idx_main_v91 i
      = ix4 ⟨(i 0).val / 2048, by omega⟩ ⟨(i 0).val % 2048, by omega⟩ ⟨(i 1).val / 128, by omega⟩ ⟨(i 1).val % 128, by omega⟩ :=
    funext fun a => Fin.ext (by
      match a with
      | ⟨0, _⟩ => dsimp [ix4]; omega
      | ⟨1, _⟩ => dsimp [ix4]; omega
      | ⟨2, _⟩ => dsimp [ix4]; omega
      | ⟨3, _⟩ => dsimp [ix4]; omega)
  rw [e, out_at, lam_eq]
  have ho : ∀ d : Fin 128, _ := avg_eq X L hX hL ⟨(i 0).val / 2048, by omega⟩ ⟨(i 0).val % 2048, by omega⟩ ⟨(i 1).val / 128, by omega⟩
  simp only [ho]
  have hr : (i 0).val % 2048 % 128 = (i 0).val % 128 := by omega
  simp only [hr]
  rfl

end

end Cert.DiffEq

end
-- ==== Proof.Arrays.lean ====
/-
  Arrays of the extended reals read at natural numbers, so that a block's row and an array's row are named alike.
-/
module

public import Idealize.ShloMosaic.PureOps.Ideal
public import Idealize.ShloMosaic.Lib.Pointwise

@[expose] public section

noncomputable section

namespace Cert.Arrays

open Idealize.ShloMosaic

/-- A vector at place `n`. -/
def at1 {a : ℕ} (X : (⟨1, ![a]⟩ : Shape).Idx → EReal) (n : ℕ) : EReal := if h : n < a then X (ix1 ⟨n, h⟩) else 0

/-- A matrix at row `n`, lane `l`. -/
def at2 {a b : ℕ} (X : (⟨2, ![a, b]⟩ : Shape).Idx → EReal) (n l : ℕ) : EReal :=
  if h : n < a ∧ l < b then X (ix2 ⟨n, h.1⟩ ⟨l, h.2⟩) else 0

/-- A stack of matrices at matrix `e`, row `n`, lane `l`. -/
def at3 {a b c : ℕ} (X : (⟨3, ![a, b, c]⟩ : Shape).Idx → EReal) (e n l : ℕ) : EReal :=
  if h : e < a ∧ n < b ∧ l < c then X (ix3 ⟨e, h.1⟩ ⟨n, h.2.1⟩ ⟨l, h.2.2⟩) else 0

/-- A vector's index, read by its coordinate. -/
theorem at1_of {a : ℕ} (X : (⟨1, ![a]⟩ : Shape).Idx → EReal) (i : (⟨1, ![a]⟩ : Shape).Idx) (n : ℕ) (h : (i 0).val = n) : X i = at1 X n := by
  subst h
  refine Eq.trans ?_ (dif_pos (i 0).isLt).symm
  congr 1
  funext x
  match x with
  | ⟨0, _⟩ => rfl

/-- A matrix's index, read by its coordinates. -/
theorem at2_of {a b : ℕ} (X : (⟨2, ![a, b]⟩ : Shape).Idx → EReal) (i : (⟨2, ![a, b]⟩ : Shape).Idx) (n l : ℕ) (h0 : (i 0).val = n)
    (h1 : (i 1).val = l) : X i = at2 X n l := by
  subst h0 h1
  refine Eq.trans ?_ (dif_pos ⟨(i 0).isLt, (i 1).isLt⟩).symm
  congr 1
  funext x
  match x with
  | ⟨0, _⟩ => rfl
  | ⟨1, _⟩ => rfl

/-- A stack's index, read by its coordinates. -/
theorem at3_of {a b c : ℕ} (X : (⟨3, ![a, b, c]⟩ : Shape).Idx → EReal) (i : (⟨3, ![a, b, c]⟩ : Shape).Idx) (e n l : ℕ) (h0 : (i 0).val = e)
    (h1 : (i 1).val = n) (h2 : (i 2).val = l) : X i = at3 X e n l := by
  subst h0 h1 h2
  refine Eq.trans ?_ (dif_pos ⟨(i 0).isLt, (i 1).isLt, (i 2).isLt⟩).symm
  congr 1
  funext x
  match x with
  | ⟨0, _⟩ => rfl
  | ⟨1, _⟩ => rfl
  | ⟨2, _⟩ => rfl

end Cert.Arrays

end
-- ==== Proof.InProjValue.lean ====
/-
  The attention's input projection of the normed and modulated rows, over the extended reals: what the kernel's result array and the
  reference's hold at a row and a lane.
-/
module

public import proofs.«01_k».proof.Proof.Gen.InProjIdeal.Value
public import proofs.«01_k».proof.Proof.Gen.InProjReferenceIdeal.Read
public import proofs.«01_k».proof.Proof.Arrays
public import Idealize.ShloMosaic.Lib.StableHlo.ReadAt

@[expose] public section

set_option maxRecDepth 16384

noncomputable section

namespace Cert.InProjIdeal.InProjValue

open Cert.InProjIdeal Cert.InProjIdeal.Gen Cert.InProjIdeal.Value Cert.Arrays
open Idealize.ShloMosaic Idealize.ShloMosaic.TcCoe Idealize.SL.Sem
open Idealize.ShloMosaic.Pipeline (Dat)

theorem hz : (![0, 0] : Fin 2 → Nat) = fun _ => 0 := by funext a; revert a; decide
theorem hz4 : (![0, 0, 0, 0] : Fin 4 → Nat) = fun _ => 0 := by funext a; revert a; decide

theorem row_word (i : grid0.Coords) : cc0_transform_0 i 0 = (i 0).val := by
  have h : ∀ a : Fin 32, (BitVec.ofNat 32 a.val).toNat = a.val := by decide +kernel
  exact h (i 0)

theorem lane_word (i : grid0.Coords) : cc0_transform_4 i 1 = (i 1).val := by
  have h : ∀ a : Fin 12, (BitVec.ofNat 32 a.val).toNat = a.val := by decide +kernel
  exact h (i 1)

/-- The modulation's sequence: two row tiles to a sequence. -/
theorem shift_word : ∀ t : Fin grid0.N, cc0_transform_2 (grid0.coords t) 0 = (grid0.coords t 0).val / 2 := by decide +kernel
theorem scale_word : ∀ t : Fin grid0.N, cc0_transform_3 (grid0.coords t) 0 = (grid0.coords t 0).val / 2 := by decide +kernel

/-- The mean of row `n`'s squares. -/
def meanAt (X : S32768x2048.Idx → EReal) (n : ℕ) : EReal :=
  Ideal.div (∑ q : Fin 2048, at2 X n q.val * at2 X n q.val) (Ideal.ofBits FTy.f32 0x45000000#32)

/-- Row `n`, lane `k` of the normed and modulated rows. -/
def hAt (X : S32768x2048.Idx → EReal) (G : S2048.Idx → EReal) (M : S16x12288.Idx → EReal) (n k : ℕ) : EReal :=
  at2 X n k * Ideal.rsqrt (meanAt X n + Ideal.ofBits FTy.f32 0x358637BD#32) * at1 G k * (1 + at2 M (n / 2048) (2048 + k)) + at2 M (n / 2048) k

/-- Row `n`, lane `l` of the result. -/
def outAt (X : S32768x2048.Idx → EReal) (G : S2048.Idx → EReal) (M : S16x12288.Idx → EReal) (W : S2048x6144.Idx → EReal) (n l : ℕ) : EReal :=
  ∑ k : Fin 2048, hAt X G M n k.val * at2 W k.val l

theorem pay1_at (x0 : Vec Ideal S1024x2048 .f32) (x1 : Vec Ideal S1x2048 .f32) (x3 x2 : Vec Ideal S1x1x1x2048 .f32)
    (r : Fin 1024) (k : Fin 2048) :
    k0_pay1 x0 x1 x3 x2 (ix2 r k) = x0 (ix2 r k)
      * Ideal.rsqrt (Ideal.div (∑ q : Fin 2048, x0 (ix2 r q) * x0 (ix2 r q)) (Ideal.ofBits FTy.f32 0x45000000#32) + Ideal.ofBits FTy.f32 0x358637BD#32)
      * x1 (ix2 0 k) * (1 + x3 (ix4 0 0 0 k)) + x2 (ix4 0 0 0 k) := by
  pointwise [k0_pay1]

theorem pay2_at (h : Vec Ideal S1024x2048 .bf16) (w : Vec Ideal S2048x512 .bf16) (r : Fin 1024) (j : Fin 512) :
    k0_pay2 h w (ix2 r j) = ∑ k : Fin 2048, h (ix2 r k) * w (ix2 k j) := by
  pointwise [k0_pay2]

/-- What the first lane tile's body leaves carried: the normed and modulated rows. -/
theorem carried_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x1x2048 .f32) (harg4 : arg4.IsWhole) (arg5 : Memref sig .tc .vmem S1x1x1x2048 .f32) (harg5 : arg5.IsWhole) (arg6 : Memref sig .tc .vmem S2048x512 .bf16) (harg6 : arg6.IsWhole) (arg7 : Memref sig .tc .vmem S1024x512 .bf16) (harg7 : arg7.IsWhole) (arg8 : Memref sig .tc .vmem S1024x2048 .bf16) (harg8 : arg8.IsWhole) (hc0 : cond0_0 i)
    (x0 : Vec Ideal S1024x2048 .f32) (x1 : Vec Ideal S1x2048 .f32) (x2 : Vec Ideal S1x1x1x2048 .f32) (x3 : Vec Ideal S1x1x1x2048 .f32) (x4 : Vec Ideal S2048x512 .bf16) :
    sout0_A_0 (F := Ideal) c i arg2 harg2 arg3 harg3 arg4 harg4 arg5 harg5 arg6 harg6 arg7 harg7 arg8 harg8 hc0 x0 x1 x2 x3 x4 = k0_pay1 x0 x1 x3 x2 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_run_names
  rw [View.canon_unit_zero hz]
  simp only [View.readAt_eq_ld, harg2.read_unread, harg3.read_unread, harg4.read_unread, harg5.read_unread, harg6.read_unread, harg8.read_unread,
    View.ld_unit_zero (S := S1024x2048) hz, View.ld_unit_zero (S := S1x2048) hz, View.ld_unit_zero (S := S2048x512) hz, View.ld_unit_zero (S := S1x1x1x2048) hz4]

/-- What the first lane tile's body leaves for its output. -/
theorem out_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x1x2048 .f32) (harg4 : arg4.IsWhole) (arg5 : Memref sig .tc .vmem S1x1x1x2048 .f32) (harg5 : arg5.IsWhole) (arg6 : Memref sig .tc .vmem S2048x512 .bf16) (harg6 : arg6.IsWhole) (arg7 : Memref sig .tc .vmem S1024x512 .bf16) (harg7 : arg7.IsWhole) (arg8 : Memref sig .tc .vmem S1024x2048 .bf16) (harg8 : arg8.IsWhole) (hc0 : cond0_0 i)
    (x0 : Vec Ideal S1024x2048 .f32) (x1 : Vec Ideal S1x2048 .f32) (x2 : Vec Ideal S1x1x1x2048 .f32) (x3 : Vec Ideal S1x1x1x2048 .f32) (x4 : Vec Ideal S2048x512 .bf16) :
    out0_A_5 (F := Ideal) c i arg2 harg2 arg3 harg3 arg4 harg4 arg5 harg5 arg6 harg6 arg7 harg7 arg8 harg8 hc0 x0 x1 x2 x3 x4 = k0_pay2 (k0_pay1 x0 x1 x3 x2) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_run_names
  rw [View.canon_unit_zero hz]
  simp only [View.readAt_eq_ld, harg2.read_unread, harg3.read_unread, harg4.read_unread, harg5.read_unread, harg6.read_unread, harg8.read_unread,
    View.ld_unit_zero (S := S1024x2048) hz, View.ld_unit_zero (S := S1x2048) hz, View.ld_unit_zero (S := S2048x512) hz, View.ld_unit_zero (S := S1x1x1x2048) hz4]
  rw [View.readCov_unit_zero (S := S1024x2048) _ hz]

/-- What a later lane tile's body leaves for its output, over the rows carried. -/
theorem out_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x1x2048 .f32) (harg4 : arg4.IsWhole) (arg5 : Memref sig .tc .vmem S1x1x1x2048 .f32) (harg5 : arg5.IsWhole) (arg6 : Memref sig .tc .vmem S2048x512 .bf16) (harg6 : arg6.IsWhole) (arg7 : Memref sig .tc .vmem S1024x512 .bf16) (harg7 : arg7.IsWhole) (arg8 : Memref sig .tc .vmem S1024x2048 .bf16) (harg8 : arg8.IsWhole) (hc0 : ¬cond0_0 i)
    (x0 : Vec Ideal S1024x2048 .f32) (x1 : Vec Ideal S1x2048 .f32) (x2 : Vec Ideal S1x1x1x2048 .f32) (x3 : Vec Ideal S1x1x1x2048 .f32) (x4 : Vec Ideal S2048x512 .bf16) (h : Vec Ideal S1024x2048 .bf16) :
    out0_B_5 (F := Ideal) c i arg2 harg2 arg3 harg3 arg4 harg4 arg5 harg5 arg6 harg6 arg7 harg7 arg8 harg8 hc0 x0 x1 x2 x3 x4 h = k0_pay2 h x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 h)]
  unfold kernelRun0_B
  dsimp only
  sl_unfold_run_names
  rw [View.canon_unit_zero hz]
  simp only [View.readAt_eq_ld, harg2.read_unread, harg3.read_unread, harg4.read_unread, harg5.read_unread, harg6.read_unread, harg8.read_unread,
    View.ld_unit_zero (S := S1024x2048) hz, View.ld_unit_zero (S := S1x2048) hz, View.ld_unit_zero (S := S2048x512) hz, View.ld_unit_zero (S := S1x1x1x2048) hz4]

section
variable (m : (ℓ : Loc nD τ sig) → Buf (Elt Ideal) ℓ)

/-- The weights the kernel is handed are the argument. -/
theorem w_at (c : Dev nD) (i : S2048x6144.Idx) : V m c main_v1 i = m ((c : Thread nD τ).loc main_arg3) i := by
  unfold V
  after_reads_at

/-- The norm's gain the kernel is handed is the argument, as one row. -/
theorem gain_at (c : Dev nD) (k : Fin 2048) : V m c main_v2 (ix2 0 k) = at1 (m ((c : Thread nD τ).loc main_arg1)) k.val := by
  unfold V
  after_reads_at
  exact at1_of _ _ _ rfl

/-- Vector `s` of a sequence's modulation is the argument's lanes from `2048 s`. -/
theorem mod_at (c : Dev nD) (b : Fin 16) (s : Fin 6) (j : Fin 2048) :
    V m c main_v0 (ix4 b s 0 j) = at2 (m ((c : Thread nD τ).loc main_arg2)) b.val (2048 * s.val + j.val) := by
  have hb := b.isLt
  have hs := s.isLt
  have hj := j.isLt
  unfold V
  after_reads_at
  refine at2_of _ _ _ _ ?_ ?_
  · rfl
  · show s.val * 2048 + j.val = _
    omega

theorem iblk0 (c : Dev nD) (t : Fin cfg0.N) (r : Fin 1024) (k : Fin 2048) :
    (iblk m c 0 t : Vec Ideal S1024x2048 .f32) (ix2 r k) = at2 (m ((c : Thread nD τ).loc main_arg0)) ((grid0.coords t 0).val * 1024 + r.val) k.val := by
  unfold iblk
  rw [View.read_apply]
  show V m c main_arg0 _ = _
  rw [V_main_arg0]
  refine at2_of _ _ _ _ ?_ ?_
  · show cc0_transform_0 (grid0.coords t) 0 * 1024 + 1 * r.val = _
    rw [row_word]; omega
  · show 0 * 2048 + 1 * k.val = _
    omega

theorem iblk1 (c : Dev nD) (t : Fin cfg0.N) (k : Fin 2048) :
    (iblk m c 1 t : Vec Ideal S1x2048 .f32) (ix2 0 k) = at1 (m ((c : Thread nD τ).loc main_arg1)) k.val := by
  unfold iblk
  rw [View.read_apply]
  refine Eq.trans ?_ (gain_at m c k)
  show V m c main_v2 _ = V m c main_v2 _
  congr 1
  funext a
  apply Fin.ext
  match a with
  | ⟨0, _⟩ => rfl
  | ⟨1, _⟩ => show 0 * 2048 + 1 * k.val = k.val; omega

theorem iblk2 (c : Dev nD) (t : Fin cfg0.N) (k : Fin 2048) :
    (iblk m c 2 t : Vec Ideal S1x1x1x2048 .f32) (ix4 0 0 0 k) = at2 (m ((c : Thread nD τ).loc main_arg2)) ((grid0.coords t 0).val / 2) k.val := by
  have h0 : (grid0.coords t 0).val < 32 := (grid0.coords t 0).isLt
  unfold iblk
  rw [View.read_apply]
  refine Eq.trans ?_ ((mod_at m c ⟨(grid0.coords t 0).val / 2, by omega⟩ 0 k).trans (by rw [show 2048 * (0 : Fin 6).val + k.val = k.val by simp]))
  show V m c main_v0 _ = V m c main_v0 _
  congr 1
  funext a
  apply Fin.ext
  match a with
  | ⟨0, _⟩ => show cc0_transform_2 (grid0.coords t) 0 * 1 + 1 * 0 = (grid0.coords t 0).val / 2; rw [shift_word]; omega
  | ⟨1, _⟩ => rfl
  | ⟨2, _⟩ => rfl
  | ⟨3, _⟩ => show 0 * 2048 + 1 * k.val = k.val; omega

theorem iblk3 (c : Dev nD) (t : Fin cfg0.N) (k : Fin 2048) :
    (iblk m c 3 t : Vec Ideal S1x1x1x2048 .f32) (ix4 0 0 0 k) = at2 (m ((c : Thread nD τ).loc main_arg2)) ((grid0.coords t 0).val / 2) (2048 + k.val) := by
  have h0 : (grid0.coords t 0).val < 32 := (grid0.coords t 0).isLt
  unfold iblk
  rw [View.read_apply]
  refine Eq.trans ?_ (mod_at m c ⟨(grid0.coords t 0).val / 2, by omega⟩ 1 k)
  show V m c main_v0 _ = V m c main_v0 _
  congr 1
  funext a
  apply Fin.ext
  match a with
  | ⟨0, _⟩ => show cc0_transform_3 (grid0.coords t) 0 * 1 + 1 * 0 = (grid0.coords t 0).val / 2; rw [scale_word]; omega
  | ⟨1, _⟩ => rfl
  | ⟨2, _⟩ => rfl
  | ⟨3, _⟩ => show 0 * 2048 + 1 * k.val = k.val; omega

theorem iblk4 (c : Dev nD) (t : Fin cfg0.N) (k : Fin 2048) (j : Fin 512) :
    (iblk m c 4 t : Vec Ideal S2048x512 .bf16) (ix2 k j) = at2 (m ((c : Thread nD τ).loc main_arg3)) k.val ((grid0.coords t 1).val * 512 + j.val) := by
  unfold iblk
  rw [View.read_apply]
  show V m c main_v1 _ = _
  rw [w_at]
  refine at2_of _ _ _ _ ?_ ?_
  · show 0 * 2048 + 1 * k.val = _
    omega
  · show cc0_transform_4 (grid0.coords t) 1 * 512 + 1 * j.val = _
    rw [lane_word]; omega

/-- The first payload at a point, by the arrays. -/
theorem rows_at (c : Dev nD) (t : Fin cfg0.N) (r : Fin 1024) (k : Fin 2048) :
    k0_pay1 (F := Ideal) (iblk m c 0 t) (iblk m c 1 t) (iblk m c 3 t) (iblk m c 2 t) (ix2 r k)
      = hAt (m ((c : Thread nD τ).loc main_arg0)) (m ((c : Thread nD τ).loc main_arg1)) (m ((c : Thread nD τ).loc main_arg2))
          ((grid0.coords t 0).val * 1024 + r.val) k.val := by
  have hr := r.isLt
  rw [pay1_at]
  simp only [iblk0, iblk1, iblk2, iblk3]
  unfold hAt meanAt
  rw [show ((grid0.coords t 0).val * 1024 + r.val) / 2048 = (grid0.coords t 0).val / 2 by omega]

theorem coord0 (t : Fin cfg0.N) : (grid0.coords t 0).val = t.val / 12 := by
  have ht : t.val < 384 := t.isLt
  show t.val / 12 % 32 = _
  omega

/-- What the first lane tile of a row tile leaves. -/
theorem outs_first (c : Dev nD) (t : Fin cfg0.N) (h0 : t.val % 12 = 0) : outsAt0 m c t.val t.isLt
      = (k0_pay2 (F := Ideal) (k0_pay1 (F := Ideal) (iblk m c 0 t) (iblk m c 1 t) (iblk m c 3 t) (iblk m c 2 t)) (iblk m c 4 t),
        k0_pay1 (F := Ideal) (iblk m c 0 t) (iblk m c 1 t) (iblk m c 3 t) (iblk m c 2 t)) := by
  rw [outsAt0_A m c t h0, carried_first, out_first]

/-- What a later lane tile of a row tile leaves. -/
theorem outs_later (c : Dev nD) (t : Fin cfg0.N) (h0 : ¬t.val % 12 = 0) : outsAt0 m c t.val t.isLt
      = (k0_pay2 (F := Ideal) (outsAt0 m c (t.val - 1) (Nat.lt_of_le_of_lt (Nat.sub_le _ _) t.isLt)).2 (iblk m c 4 t),
        (outsAt0 m c (t.val - 1) (Nat.lt_of_le_of_lt (Nat.sub_le _ _) t.isLt)).2) := by
  rw [outsAt0_B m c t h0, out_later]
  unfold sout0_B_0
  rfl

/-- After every point the carried rows are those of its row tile. -/
theorem carried_at (c : Dev nD) (r : Fin 1024) (k : Fin 2048) : ∀ (n : ℕ) (hn : n < cfg0.N), (outsAt0 m c n hn).2 (ix2 r k)
      = hAt (m ((c : Thread nD τ).loc main_arg0)) (m ((c : Thread nD τ).loc main_arg1)) (m ((c : Thread nD τ).loc main_arg2)) (n / 12 * 1024 + r.val) k.val := by
  intro n
  induction n with
  | zero =>
    intro hn
    have e := congrArg Prod.snd (outs_first m c ⟨0, hn⟩ (Nat.zero_mod _))
    dsimp only at e
    rw [e, rows_at, coord0]
  | succ n ih =>
    intro hn
    by_cases h0 : (n + 1) % 12 = 0
    · have e := congrArg Prod.snd (outs_first m c ⟨n + 1, hn⟩ h0)
      dsimp only at e
      rw [e, rows_at, coord0]
    · have e := congrArg Prod.snd (outs_later m c ⟨n + 1, hn⟩ h0)
      dsimp only at e
      rw [e]
      refine (ih _).trans ?_
      rw [show (n + 1) / 12 = n / 12 by omega]

/-- The output's block after every point, by the arrays. -/
theorem block_at (c : Dev nD) (t : Fin cfg0.N) (r : Fin 1024) (j : Fin 512) : (outsAt0 m c t.val t.isLt).1 (ix2 r j)
      = outAt (m ((c : Thread nD τ).loc main_arg0)) (m ((c : Thread nD τ).loc main_arg1)) (m ((c : Thread nD τ).loc main_arg2))
          (m ((c : Thread nD τ).loc main_arg3)) ((grid0.coords t 0).val * 1024 + r.val) ((grid0.coords t 1).val * 512 + j.val) := by
  by_cases h0 : t.val % 12 = 0
  · have e := congrArg Prod.fst (outs_first m c t h0)
    dsimp only at e
    rw [e, pay2_at]
    unfold outAt
    refine Finset.sum_congr rfl fun k _ => ?_
    rw [rows_at, iblk4]
  · have e := congrArg Prod.fst (outs_later m c t h0)
    dsimp only at e
    rw [e, pay2_at]
    unfold outAt
    refine Finset.sum_congr rfl fun k _ => ?_
    rw [carried_at, iblk4, coord0, show (t.val - 1) / 12 = t.val / 12 by omega]

/-- What the result array holds. -/
def result (c : Dev nD) : Buf (Elt Ideal) ((c : Thread nD τ).loc main_v3) := fun (i : S32768x6144.Idx) =>
  outAt (m ((c : Thread nD τ).loc main_arg0)) (m ((c : Thread nD τ).loc main_arg1)) (m ((c : Thread nD τ).loc main_arg2))
    (m ((c : Thread nD τ).loc main_arg3)) (i 0).val (i 1).val

theorem row_word5 (i : grid0.Coords) : cc0_transform_5 i 0 = (i 0).val := row_word i
theorem lane_word5 (i : grid0.Coords) : cc0_transform_5 i 1 = (i 1).val := lane_word i

/-- What point `t` writes back is its block of `result`. -/
theorem flushed_eq (c : Dev nD) (t : Fin cfg0.N) :
    (dats m 0 c).flushed 5 t = ((cfg0.win 5).blk t).view.read (Elt Ideal) (result m c) := by
  rw [flushed5]
  funext j
  rw [View.read_apply]
  have h0 : (j 0).val < 1024 := (j 0).isLt
  have h1 : (j 1).val < 512 := (j 1).isLt
  have e0 : ((((cfg0.win 5).blk t).view.emb j) 0).val = (grid0.coords t 0).val * 1024 + (j 0).val := by
    show cc0_transform_5 (grid0.coords t) 0 * 1024 + 1 * (j 0).val = _
    rw [row_word5]; omega
  have e1 : ((((cfg0.win 5).blk t).view.emb j) 1).val = (grid0.coords t 1).val * 512 + (j 1).val := by
    show cc0_transform_5 (grid0.coords t) 1 * 512 + 1 * (j 1).val = _
    rw [lane_word5]; omega
  show (outsAt0 m c t.val t.isLt).1 _ = result m c (((cfg0.win 5).blk t).view.emb j)
  refine (congrArg (outsAt0 m c t.val t.isLt).1 (?_ : _ = ix2 ⟨(j 0).val, h0⟩ ⟨(j 1).val, h1⟩)).trans
    ((block_at m c t ⟨(j 0).val, h0⟩ ⟨(j 1).val, h1⟩).trans ?_)
  · funext a
    match a with
    | ⟨0, _⟩ => rfl
    | ⟨1, _⟩ => rfl
  · unfold result
    simp only [e0, e1]

/-- So the array ends holding `result`: every row and lane lies in one point's block. -/
theorem final (c : Dev nD) : (dats m 0 c).arrAt 5 cfg0.N = result m c :=
  (dats m 0 c).arrAt_eq_of_cover 5 (result m c) (fun t _ => flushed_eq m c t) fun i => by
    have hi0 : (i 0).val < 32768 := (i 0).isLt
    have hi1 : (i 1).val < 6144 := (i 1).isLt
    exact (covered_iff5 i).2 ⟨Nat.zero_le _, hi0, Nat.zero_le _, hi1⟩

end

section
open Cert.InProjReferenceIdeal.Read

/-- The reference's normed and modulated rows. -/
theorem ref_rows (X : Vec Ideal S32768x2048 .f32) (G : Vec Ideal S2048 .f32) (M : Vec Ideal S16x12288 .f32) (i : Cert.InProjReferenceIdeal.S16x2048x2048.Idx) :
    val_main_v26 (F := Ideal) X G M i = hAt X G M ((i 0).val * 2048 + (i 1).val) (i 2).val := by
  have hi0 : (i 0).val < 16 := (i 0).isLt
  have hi1 : (i 1).val < 2048 := (i 1).isLt
  have hi2 : (i 2).val < 2048 := (i 2).isLt
  have row : ∀ (q : Cert.InProjReferenceIdeal.S16x2048x2048.Idx) (l : ℕ), (q 0).val = (i 0).val → (q 1).val = (i 1).val → (q 2).val = l →
      val_main_v7 (F := Ideal) X q = at2 X ((i 0).val * 2048 + (i 1).val) l := by
    intro q l h0 h1 h2
    have hl : (q 2).val < 2048 := (q 2).isLt
    rw [val_main_v7_apply]
    refine at2_of _ _ _ _ ?_ ?_
    · dsimp; omega
    · dsimp; omega
  rw [val_main_v26_apply, val_main_v25_apply, val_main_v24_apply, val_main_v23_apply, val_main_v22_apply, val_main_v21_apply, val_main_v20_apply,
    val_main_v19_apply, val_main_v18_apply, val_main_v17_apply, val_main_v16_apply, val_main_v15_apply, val_main_v14_apply, val_main_v13_apply,
    val_main_v12_apply, val_main_v11_apply, val_main_v10_apply, val_main_v9_apply, val_main_v2_apply, val_main_v1_apply, val_main_v0_apply, val_main_v0_apply,
    val_main_cst_2_apply, val_main_cst_1_apply, val_main_cst_0_apply, val_main_cst_apply, row i _ rfl rfl rfl]
  unfold hAt meanAt
  rw [show ((i 0).val * 2048 + (i 1).val) / 2048 = (i 0).val by omega]
  show _ * Ideal.rsqrt (Ideal.div (Ideal.ofBits FTy.f32 0x00000000#32 + _) _ + _) * _ * (Ideal.ofBits FTy.f32 0x3F800000#32 + _) + _ = _
  rw [show Ideal.ofBits FTy.f32 0x00000000#32 = 0 by simp, show Ideal.ofBits FTy.f32 0x3F800000#32 = 1 by simp, zero_add]
  refine congrArg₂ _ (congrArg₂ _ (congrArg₂ _ (congrArg₂ _ rfl (congrArg _ (congrArg₂ _ (congrArg₂ _ (Finset.sum_congr rfl fun q _ => ?_) rfl) rfl)))
    (at1_of _ _ _ ?_)) (congrArg₂ _ rfl (at2_of _ _ _ _ ?_ ?_))) (at2_of _ _ _ _ ?_ ?_)
  · rw [val_main_v8_apply, row (idx_main_v9 (idx_main_v10 (idx_main_v16 i)) q) q.val rfl rfl rfl]
    rfl
  all_goals rfl

/-- The reference's result at an index is the kernel's value there. -/
theorem ref_at (X : Vec Ideal S32768x2048 .f32) (G : Vec Ideal S2048 .f32) (M : Vec Ideal S16x12288 .f32) (W : Vec Ideal S2048x6144 .f32)
    (i : S32768x6144.Idx) : val_main_v29 (F := Ideal) X G M W i = outAt X G M W (i 0).val (i 1).val := by
  have hi0 : (i 0).val < 32768 := (i 0).isLt
  have hi1 : (i 1).val < 6144 := (i 1).isLt
  rw [val_main_v29_apply, val_main_v28_apply, val_main_v27_apply]
  unfold outAt
  refine Finset.sum_congr rfl fun k _ => congrArg₂ _ ?_ (at2_of _ _ _ _ ?_ ?_)
  · rw [ref_rows]
    congr 1
    dsimp
    omega
  · dsimp
  · dsimp; omega

end

end Cert.InProjIdeal.InProjValue

end
-- ==== Proof.OutProjValue.lean ====
/-
  The attention's output projection of its two parts with its gate and residual, over the extended reals: what the kernel's result array and the
  reference's hold at a row and a lane.
-/
module

public import proofs.«01_k».proof.Proof.Gen.OutProjIdeal.Value
public import proofs.«01_k».proof.Proof.Gen.OutProjReferenceIdeal.Read
public import proofs.«01_k».proof.Proof.Arrays
public import Idealize.ShloMosaic.Lib.StableHlo.ReadAt

@[expose] public section

set_option maxRecDepth 16384

noncomputable section

namespace Cert.OutProjIdeal.OutProjValue

open Cert.OutProjIdeal Cert.OutProjIdeal.Gen Cert.OutProjIdeal.Value Cert.Arrays
open Idealize.ShloMosaic Idealize.ShloMosaic.TcCoe Idealize.SL.Sem
open Idealize.ShloMosaic.Pipeline (Dat)

/-- The gate's sequence: two row tiles to a sequence. -/
theorem batch_word : ∀ t : Fin grid0.N, cc0_transform_5 (grid0.coords t) 0 = (grid0.coords t 0).val / 2 := by decide +kernel

theorem row_word (i : grid0.Coords) : cc0_transform_0 i 0 = (i 0).val := by
  have h : ∀ a : Fin 32, (BitVec.ofNat 32 a.val).toNat = a.val := by decide +kernel
  exact h (i 0)

theorem lane_word (i : grid0.Coords) : cc0_transform_2 i 1 = (i 1).val := by
  have h : ∀ a : Fin 4, (BitVec.ofNat 32 a.val).toNat = a.val := by decide +kernel
  exact h (i 1)

theorem hz : (![0, 0] : Fin 2 → Nat) = fun _ => 0 := by funext a; revert a; decide
theorem hz4 : (![0, 0, 0, 0] : Fin 4 → Nat) = fun _ => 0 := by funext a; revert a; decide

/-- Row `n`, lane `l` of the result: the residual plus the gate times the product, taken half by half. -/
def outAt (A B : S32768x1024.Idx → EReal) (W : S2048x2048.Idx → EReal) (X : S32768x2048.Idx → EReal) (M : S16x12288.Idx → EReal) (n l : ℕ) : EReal :=
  at2 X n l + at2 M (n / 2048) (4096 + l)
    * ((∑ k : Fin 1024, at2 A n k.val * at2 W k.val l) + ∑ k : Fin 1024, at2 B n k.val * at2 W (1024 + k.val) l)

theorem pay_at (x0 x1 : Vec Ideal S1024x1024 .bf16) (x2 x3 : Vec Ideal S1024x512 .bf16) (x4 : Vec Ideal S1024x512 .f32)
    (x5 : Vec Ideal S1x1x1x512 .f32) (r : Fin 1024) (j : Fin 512) :
    k0_pay1 x0 x2 x1 x3 x4 x5 (ix2 r j) = x4 (ix2 r j)
      + x5 (ix4 0 0 0 j) * ((∑ k : Fin 1024, x0 (ix2 r k) * x2 (ix2 k j)) + ∑ k : Fin 1024, x1 (ix2 r k) * x3 (ix2 k j)) := by
  pointwise [k0_pay1]

section
variable (m : (ℓ : Loc nD τ sig) → Buf (Elt Ideal) ℓ)

/-- The weights the kernel is handed are the argument. -/
theorem w_at (c : Dev nD) (i : S2048x2048.Idx) : V m c main_v0 i = m ((c : Thread nD τ).loc main_arg2) i := by
  unfold V
  after_reads_at

/-- Vector `s` of a sequence's modulation is the argument's lanes from `2048 s`. -/
theorem mod_at (c : Dev nD) (b : Fin 16) (s : Fin 6) (j : Fin 2048) :
    V m c main_v1 (ix4 b s 0 j) = at2 (m ((c : Thread nD τ).loc main_arg4)) b.val (2048 * s.val + j.val) := by
  have hb := b.isLt
  have hs := s.isLt
  have hj := j.isLt
  unfold V
  after_reads_at
  refine at2_of _ _ _ _ ?_ ?_
  · rfl
  · show s.val * 2048 + j.val = _
    omega

theorem iblk0 (c : Dev nD) (t : Fin cfg0.N) (r : Fin 1024) (k : Fin 1024) :
    (iblk m c 0 t : Vec Ideal S1024x1024 .bf16) (ix2 r k) = at2 (m ((c : Thread nD τ).loc main_arg0)) ((grid0.coords t 0).val * 1024 + r.val) k.val := by
  unfold iblk
  rw [View.read_apply]
  show V m c main_arg0 _ = _
  rw [V_main_arg0]
  refine at2_of _ _ _ _ ?_ ?_
  · show cc0_transform_0 (grid0.coords t) 0 * 1024 + 1 * r.val = _
    rw [row_word]; omega
  · show 0 * 1024 + 1 * k.val = _
    omega

theorem iblk1 (c : Dev nD) (t : Fin cfg0.N) (r : Fin 1024) (k : Fin 1024) :
    (iblk m c 1 t : Vec Ideal S1024x1024 .bf16) (ix2 r k) = at2 (m ((c : Thread nD τ).loc main_arg1)) ((grid0.coords t 0).val * 1024 + r.val) k.val := by
  unfold iblk
  rw [View.read_apply]
  show V m c main_arg1 _ = _
  rw [V_main_arg1]
  refine at2_of _ _ _ _ ?_ ?_
  · show cc0_transform_0 (grid0.coords t) 0 * 1024 + 1 * r.val = _
    rw [row_word]; omega
  · show 0 * 1024 + 1 * k.val = _
    omega

theorem iblk2 (c : Dev nD) (t : Fin cfg0.N) (k : Fin 1024) (j : Fin 512) :
    (iblk m c 2 t : Vec Ideal S1024x512 .bf16) (ix2 k j)
      = at2 (m ((c : Thread nD τ).loc main_arg2)) k.val ((grid0.coords t 1).val * 512 + j.val) := by
  unfold iblk
  rw [View.read_apply]
  show V m c main_v0 _ = _
  rw [w_at]
  refine at2_of _ _ _ _ ?_ ?_
  · show 0 * 1024 + 1 * k.val = _
    omega
  · show cc0_transform_2 (grid0.coords t) 1 * 512 + 1 * j.val = _
    rw [lane_word]; omega

theorem iblk3 (c : Dev nD) (t : Fin cfg0.N) (k : Fin 1024) (j : Fin 512) :
    (iblk m c 3 t : Vec Ideal S1024x512 .bf16) (ix2 k j)
      = at2 (m ((c : Thread nD τ).loc main_arg2)) (1024 + k.val) ((grid0.coords t 1).val * 512 + j.val) := by
  unfold iblk
  rw [View.read_apply]
  show V m c main_v0 _ = _
  rw [w_at]
  refine at2_of _ _ _ _ ?_ ?_
  · show 1 * 1024 + 1 * k.val = _
    omega
  · show cc0_transform_2 (grid0.coords t) 1 * 512 + 1 * j.val = _
    rw [lane_word]; omega

theorem iblk4 (c : Dev nD) (t : Fin cfg0.N) (r : Fin 1024) (j : Fin 512) :
    (iblk m c 4 t : Vec Ideal S1024x512 .f32) (ix2 r j)
      = at2 (m ((c : Thread nD τ).loc main_arg3)) ((grid0.coords t 0).val * 1024 + r.val) ((grid0.coords t 1).val * 512 + j.val) := by
  unfold iblk
  rw [View.read_apply]
  show V m c main_arg3 _ = _
  rw [V_main_arg3]
  refine at2_of _ _ _ _ ?_ ?_
  · show cc0_transform_0 (grid0.coords t) 0 * 1024 + 1 * r.val = _
    rw [row_word]; omega
  · show cc0_transform_2 (grid0.coords t) 1 * 512 + 1 * j.val = _
    rw [lane_word]; omega

theorem iblk5 (c : Dev nD) (t : Fin cfg0.N) (j : Fin 512) :
    (iblk m c 5 t : Vec Ideal S1x1x1x512 .f32) (ix4 0 0 0 j)
      = at2 (m ((c : Thread nD τ).loc main_arg4)) ((grid0.coords t 0).val / 2) (4096 + ((grid0.coords t 1).val * 512 + j.val)) := by
  have h0 : (grid0.coords t 0).val < 32 := (grid0.coords t 0).isLt
  have h1 : (grid0.coords t 1).val < 4 := (grid0.coords t 1).isLt
  unfold iblk
  rw [View.read_apply]
  refine Eq.trans ?_ (mod_at m c ⟨(grid0.coords t 0).val / 2, by omega⟩ 2 ⟨(grid0.coords t 1).val * 512 + j.val, by omega⟩)
  show V m c main_v1 _ = V m c main_v1 _
  congr 1
  funext a
  apply Fin.ext
  match a with
  | ⟨0, _⟩ => show cc0_transform_5 (grid0.coords t) 0 * 1 + 1 * 0 = (grid0.coords t 0).val / 2; rw [batch_word]; omega
  | ⟨1, _⟩ => rfl
  | ⟨2, _⟩ => rfl
  | ⟨3, _⟩ => show cc0_transform_2 (grid0.coords t) 1 * 512 + 1 * j.val = (grid0.coords t 1).val * 512 + j.val; rw [lane_word]; omega

/-- What the result array holds. -/
def result (c : Dev nD) : Buf (Elt Ideal) ((c : Thread nD τ).loc main_v2) := fun (i : S32768x2048.Idx) =>
  outAt (m ((c : Thread nD τ).loc main_arg0)) (m ((c : Thread nD τ).loc main_arg1)) (m ((c : Thread nD τ).loc main_arg2))
    (m ((c : Thread nD τ).loc main_arg3)) (m ((c : Thread nD τ).loc main_arg4)) (i 0).val (i 1).val

/-- What point `t` writes back is its block of `result`. -/
theorem flushed_eq (c : Dev nD) (t : Fin cfg0.N) :
    (dats m 0 c).flushed 6 t = ((cfg0.win 6).blk t).view.read (Elt Ideal) (result m c) := by
  rw [flushed6]
  funext j
  rw [View.read_apply]
  have hb : (grid0.coords t 0).val < 32 := (grid0.coords t 0).isLt
  have h0 : (j 0).val < 1024 := (j 0).isLt
  have h1 : (j 1).val < 512 := (j 1).isLt
  have e0 : ((((cfg0.win 6).blk t).view.emb j) 0).val = (grid0.coords t 0).val * 1024 + (j 0).val := by
    show cc0_transform_0 (grid0.coords t) 0 * 1024 + 1 * (j 0).val = _
    rw [row_word]; omega
  have e1 : ((((cfg0.win 6).blk t).view.emb j) 1).val = (grid0.coords t 1).val * 512 + (j 1).val := by
    show cc0_transform_2 (grid0.coords t) 1 * 512 + 1 * (j 1).val = _
    rw [lane_word]; omega
  have key := pay_at (iblk m c 0 t) (iblk m c 1 t) (iblk m c 2 t) (iblk m c 3 t) (iblk m c 4 t) (iblk m c 5 t) ⟨(j 0).val, h0⟩ ⟨(j 1).val, h1⟩
  simp only [iblk0, iblk1, iblk2, iblk3, iblk4, iblk5] at key
  show out0_6 (F := Ideal) (iblk m c 0 t) (iblk m c 1 t) (iblk m c 2 t) (iblk m c 3 t) (iblk m c 4 t) (iblk m c 5 t) _ = result m c (((cfg0.win 6).blk t).view.emb j)
  unfold out0_6
  rw [View.canon_unit_zero hz]
  simp only [View.ld_unit_zero (S := S1024x1024) hz, View.ld_unit_zero (S := S1024x512) hz,
    View.ld_unit_zero (S := S1x1x1x512) hz4]
  refine Eq.trans ?_ (key.trans ?_)
  · congr 1
    funext a
    match a with
    | ⟨0, _⟩ => rfl
    | ⟨1, _⟩ => rfl
  · unfold result outAt
    simp only [e0, e1]
    have a1 : ((grid0.coords t 0).val * 1024 + (j 0).val) / 2048 = (grid0.coords t 0).val / 2 := by omega
    simp only [a1]

/-- So the array ends holding `result`: every row and lane lies in one point's block. -/
theorem final (c : Dev nD) : (dats m 0 c).arrAt 6 cfg0.N = result m c :=
  (dats m 0 c).arrAt_eq_of_cover 6 (result m c) (fun t _ => flushed_eq m c t) fun i => by
    have hi0 : (i 0).val < 32768 := (i 0).isLt
    have hi1 : (i 1).val < 2048 := (i 1).isLt
    obtain ⟨t, ht⟩ : ∃ t : Fin cfg0.N, (grid0.coords t 0).val = (i 0).val / 1024 ∧ (grid0.coords t 1).val = (i 1).val / 512 := by
      refine ⟨⟨(i 0).val / 1024 * 4 + (i 1).val / 512, ?_⟩, ?_, ?_⟩
      · show _ < 128
        omega
      · show ((i 0).val / 1024 * 4 + (i 1).val / 512) / 4 % 32 = _
        omega
      · show ((i 0).val / 1024 * 4 + (i 1).val / 512) / 1 % 4 = _
        omega
    refine ⟨t, flush0_6 t, ?_⟩
    show i ∈ ((View.whole main_v2).slice (win0_6.rect t)).set
    rw [View.set_slice_whole, Rect.mem_set_unit]
    intro a
    match a with
    | ⟨0, _⟩ =>
      show cc0_transform_0 (grid0.coords t) 0 * 1024 ≤ (i 0 : Nat) ∧ (i 0 : Nat) < cc0_transform_0 (grid0.coords t) 0 * 1024 + 1024
      rw [row_word]; omega
    | ⟨1, _⟩ =>
      show cc0_transform_2 (grid0.coords t) 1 * 512 ≤ (i 1 : Nat) ∧ (i 1 : Nat) < cc0_transform_2 (grid0.coords t) 1 * 512 + 512
      rw [lane_word]; omega

end

section
open Cert.OutProjReferenceIdeal.Read

/-- The two parts side by side, read in the first. -/
theorem cat_left (A B : Vec Ideal S32768x1024 .bf16) (i : S32768x2048.Idx) (n l : ℕ) (h0 : (i 0).val = n) (h1 : (i 1).val = l) (hl : l < 1024) :
    val_main_v9 (F := Ideal) A B i = at2 A n l := by
  subst h0 h1
  have hn : (i 0).val < 32768 := (i 0).isLt
  unfold val_main_v9
  refine (concatenate_pair_apply_left (s₁ := S32768x1024) (s₂ := S32768x1024) _ _ _ _ i rfl (ix2 ⟨(i 0).val, hn⟩ ⟨(i 1).val, hl⟩) fun b => ?_).trans (at2_of A _ _ _ rfl rfl)
  match b with
  | ⟨0, _⟩ => rfl
  | ⟨1, _⟩ => rfl

/-- The two parts side by side, read in the second. -/
theorem cat_right (A B : Vec Ideal S32768x1024 .bf16) (i : S32768x2048.Idx) (n l : ℕ) (h0 : (i 0).val = n) (h1 : (i 1).val = 1024 + l) (hl : l < 1024) :
    val_main_v9 (F := Ideal) A B i = at2 B n l := by
  subst h0
  have hn : (i 0).val < 32768 := (i 0).isLt
  unfold val_main_v9
  refine (concatenate_pair_apply_right (s₁ := S32768x1024) (s₂ := S32768x1024) _ _ _ _ i rfl rfl (ix2 ⟨(i 0).val, hn⟩ ⟨l, hl⟩) (fun b hb => ?_) ?_).trans (at2_of B _ _ _ rfl rfl)
  · match b with
    | ⟨0, _⟩ => rfl
    | ⟨1, _⟩ => exact absurd rfl hb
  · show l + 1024 = (i 1).val
    omega

/-- The reference's result at an index is the kernel's value there. -/
theorem ref_at (A B : Vec Ideal S32768x1024 .bf16) (W : Vec Ideal S2048x2048 .f32) (X : Vec Ideal S32768x2048 .f32) (M : Vec Ideal S16x12288 .f32)
    (i : S32768x2048.Idx) : val_main_v16 (F := Ideal) A B W X M i = outAt A B W X M (i 0).val (i 1).val := by
  have hi0 : (i 0).val < 32768 := (i 0).isLt
  have hi1 : (i 1).val < 2048 := (i 1).isLt
  rw [val_main_v16_apply, val_main_v15_apply, val_main_v14_apply, val_main_v13_apply, val_main_v12_apply, val_main_v11_apply, val_main_v3_apply,
    val_main_v0_apply]
  unfold outAt
  show _ + _ * _ = _
  refine congrArg₂ _ (at2_of _ _ _ _ ?_ ?_) (congrArg₂ _ (at2_of _ _ _ _ ?_ ?_) ((Fin.sum_univ_add (a := 1024) (b := 1024) _).trans
    (congrArg₂ _ (Finset.sum_congr rfl fun k _ => congrArg₂ _ ?_ (at2_of _ _ _ _ ?_ ?_))
      (Finset.sum_congr rfl fun k _ => congrArg₂ _ ?_ (at2_of _ _ _ _ ?_ ?_)))))
  · dsimp; omega
  · dsimp; omega
  · dsimp; omega
  · dsimp; omega
  · have hk := k.isLt
    rw [val_main_v10_apply]
    refine cat_left _ _ _ _ _ ?_ ?_ hk
    · dsimp; omega
    · dsimp; omega
  · dsimp
  · dsimp; omega
  · have hk := k.isLt
    rw [val_main_v10_apply]
    refine cat_right _ _ _ _ _ ?_ ?_ hk
    · dsimp; omega
    · dsimp; omega
  · dsimp
  · dsimp; omega

end

end Cert.OutProjIdeal.OutProjValue

end
-- ==== Proof.ModulationValue.lean ====
/-
  The adaLN projection of the conditioning, over the extended reals: what the kernel's result array and the reference's hold at a
  layer, a sequence and a lane.
-/
module

public import proofs.«01_k».proof.Proof.Gen.ModulationIdeal.Value
public import proofs.«01_k».proof.Proof.Gen.ModulationReferenceIdeal.Read
public import proofs.«01_k».proof.Proof.Arrays
public import Idealize.ShloMosaic.Lib.StableHlo.ReadAt

@[expose] public section

set_option maxRecDepth 16384

noncomputable section

namespace Cert.ModulationIdeal.ModulationValue

open Cert.ModulationIdeal Cert.ModulationIdeal.Gen Cert.ModulationIdeal.Value Cert.Arrays
open Idealize.ShloMosaic Idealize.ShloMosaic.TcCoe Idealize.SL.Sem
open Idealize.ShloMosaic.Pipeline (Dat)

theorem layer_word (i : grid0.Coords) : cc0_transform_1 i 0 = (i 0).val := by
  have h : ∀ a : Fin 4, (BitVec.ofNat 32 a.val).toNat = a.val := by decide +kernel
  exact h (i 0)

theorem lane_word (i : grid0.Coords) : cc0_transform_1 i 2 = (i 1).val := by
  have h : ∀ a : Fin 8, (BitVec.ofNat 32 a.val).toNat = a.val := by decide +kernel
  exact h (i 1)

theorem hz : (![0, 0] : Fin 2 → Nat) = fun _ => 0 := by funext a; revert a; decide
theorem hz3 : (![0, 0, 0] : Fin 3 → Nat) = fun _ => 0 := by funext a; revert a; decide

/-- The conditioning `silu c` of sequence `b` at lane `k`. -/
def condAt (C : S16x2048.Idx → EReal) (b k : ℕ) : EReal := at2 C b k * Ideal.logistic (at2 C b k)

/-- Layer `e`, sequence `b`, lane `l` of the result. -/
def outAt (C : S16x2048.Idx → EReal) (W : S4x2048x12288.Idx → EReal) (B : S4x12288.Idx → EReal) (e b l : ℕ) : EReal :=
  (∑ k : Fin 2048, condAt C b k.val * at3 W e k.val l) + at2 B e l

theorem pay_at (x0 : Vec Ideal S16x2048 .f32) (x1 : Vec Ideal S1x2048x1536 .f32) (x2 : Vec Ideal S1x1x1536 .f32) (b : Fin 16) (j : Fin 1536) :
    k0_pay1 x0 x1 x2 (ix3 0 b j) = (∑ k : Fin 2048, (x0 (ix2 b k) * Ideal.logistic (x0 (ix2 b k))) * x1 (ix3 0 k j)) + x2 (ix3 0 0 j) := by
  pointwise [k0_pay1]

section
variable (m : (ℓ : Loc nD τ sig) → Buf (Elt Ideal) ℓ)

/-- The bias of a layer is the argument's row. -/
theorem bias_at (c : Dev nD) (i : S4x1x12288.Idx) :
    V m c main_v0 i = at2 (m ((c : Thread nD τ).loc main_arg2)) (i 0).val (i 2).val := by
  unfold V
  after_reads_at
  exact at2_of _ _ _ _ rfl rfl

theorem iblk0 (c : Dev nD) (t : Fin cfg0.N) (b : Fin 16) (k : Fin 2048) :
    (iblk m c 0 t : Vec Ideal S16x2048 .f32) (ix2 b k) = at2 (m ((c : Thread nD τ).loc main_arg0)) b.val k.val := by
  unfold iblk
  rw [View.read_apply]
  show V m c main_arg0 _ = _
  rw [V_main_arg0]
  refine at2_of _ _ _ _ ?_ ?_
  · show 0 * 16 + 1 * b.val = _
    omega
  · show 0 * 2048 + 1 * k.val = _
    omega

theorem iblk1 (c : Dev nD) (t : Fin cfg0.N) (k : Fin 2048) (j : Fin 1536) :
    (iblk m c 1 t : Vec Ideal S1x2048x1536 .f32) (ix3 0 k j)
      = at3 (m ((c : Thread nD τ).loc main_arg1)) (grid0.coords t 0).val k.val ((grid0.coords t 1).val * 1536 + j.val) := by
  unfold iblk
  rw [View.read_apply]
  show V m c main_arg1 _ = _
  rw [V_main_arg1]
  refine at3_of _ _ _ _ _ ?_ ?_ ?_
  · show cc0_transform_1 (grid0.coords t) 0 * 1 + 1 * 0 = _
    rw [layer_word]; omega
  · show 0 * 2048 + 1 * k.val = _
    omega
  · show cc0_transform_1 (grid0.coords t) 2 * 1536 + 1 * j.val = _
    rw [lane_word]; omega

theorem iblk2 (c : Dev nD) (t : Fin cfg0.N) (j : Fin 1536) :
    (iblk m c 2 t : Vec Ideal S1x1x1536 .f32) (ix3 0 0 j)
      = at2 (m ((c : Thread nD τ).loc main_arg2)) (grid0.coords t 0).val ((grid0.coords t 1).val * 1536 + j.val) := by
  unfold iblk
  rw [View.read_apply]
  show V m c main_v0 _ = _
  rw [bias_at]
  refine congrArg₂ _ ?_ ?_
  · show cc0_transform_1 (grid0.coords t) 0 * 1 + 1 * 0 = _
    rw [layer_word]; omega
  · show cc0_transform_1 (grid0.coords t) 2 * 1536 + 1 * j.val = _
    rw [lane_word]; omega

/-- What the result array holds. -/
def result (c : Dev nD) : Buf (Elt Ideal) ((c : Thread nD τ).loc main_v1) := fun (i : S4x16x12288.Idx) =>
  outAt (m ((c : Thread nD τ).loc main_arg0)) (m ((c : Thread nD τ).loc main_arg1)) (m ((c : Thread nD τ).loc main_arg2))
    (i 0).val (i 1).val (i 2).val

/-- What point `t` writes back is its block of `result`. -/
theorem flushed_eq (c : Dev nD) (t : Fin cfg0.N) :
    (dats m 0 c).flushed 3 t = ((cfg0.win 3).blk t).view.read (Elt Ideal) (result m c) := by
  rw [flushed3]
  funext j
  rw [View.read_apply]
  have h0 : (j 0).val < 1 := (j 0).isLt
  have h1 : (j 1).val < 16 := (j 1).isLt
  have h2 : (j 2).val < 1536 := (j 2).isLt
  have e0 : ((((cfg0.win 3).blk t).view.emb j) 0).val = (grid0.coords t 0).val := by
    show cc0_transform_1 (grid0.coords t) 0 * 1 + 1 * (j 0).val = _
    rw [layer_word]; omega
  have e1 : ((((cfg0.win 3).blk t).view.emb j) 1).val = (j 1).val := by
    show 0 * 16 + 1 * (j 1).val = _
    omega
  have e2 : ((((cfg0.win 3).blk t).view.emb j) 2).val = (grid0.coords t 1).val * 1536 + (j 2).val := by
    show cc0_transform_1 (grid0.coords t) 2 * 1536 + 1 * (j 2).val = _
    rw [lane_word]; omega
  have key := pay_at (iblk m c 0 t) (iblk m c 1 t) (iblk m c 2 t) ⟨(j 1).val, h1⟩ ⟨(j 2).val, h2⟩
  simp only [iblk0, iblk1, iblk2] at key
  show out0_3 (F := Ideal) (iblk m c 0 t) (iblk m c 1 t) (iblk m c 2 t) _ = result m c (((cfg0.win 3).blk t).view.emb j)
  unfold out0_3
  rw [View.canon_unit_zero hz3]
  simp only [View.ld_unit_zero (S := S16x2048) hz, View.ld_unit_zero (S := S1x2048x1536) hz3, View.ld_unit_zero (S := S1x1x1536) hz3]
  refine Eq.trans ?_ (key.trans ?_)
  · congr 1
    funext a
    match a with
    | ⟨0, _⟩ => exact Fin.ext (by show (j 0).val = 0; omega)
    | ⟨1, _⟩ => rfl
    | ⟨2, _⟩ => rfl
  · unfold result outAt condAt
    simp only [e0, e1, e2]

/-- So the array ends holding `result`: every place lies in one point's block. -/
theorem final (c : Dev nD) : (dats m 0 c).arrAt 3 cfg0.N = result m c :=
  (dats m 0 c).arrAt_eq_of_cover 3 (result m c) (fun t _ => flushed_eq m c t) fun i => by
    have hi0 : (i 0).val < 4 := (i 0).isLt
    have hi1 : (i 1).val < 16 := (i 1).isLt
    have hi2 : (i 2).val < 12288 := (i 2).isLt
    obtain ⟨t, ht⟩ : ∃ t : Fin cfg0.N, (grid0.coords t 0).val = (i 0).val ∧ (grid0.coords t 1).val = (i 2).val / 1536 := by
      refine ⟨⟨(i 0).val * 8 + (i 2).val / 1536, ?_⟩, ?_, ?_⟩
      · show _ < 32
        omega
      · show ((i 0).val * 8 + (i 2).val / 1536) / 8 % 4 = _
        omega
      · show ((i 0).val * 8 + (i 2).val / 1536) / 1 % 8 = _
        omega
    refine ⟨t, flush0_3 t, ?_⟩
    show i ∈ ((View.whole main_v1).slice (win0_3.rect t)).set
    rw [View.set_slice_whole, Rect.mem_set_unit]
    intro a
    match a with
    | ⟨0, _⟩ =>
      show cc0_transform_1 (grid0.coords t) 0 * 1 ≤ (i 0 : Nat) ∧ (i 0 : Nat) < cc0_transform_1 (grid0.coords t) 0 * 1 + 1
      rw [layer_word]; omega
    | ⟨1, _⟩ =>
      show 0 * 16 ≤ (i 1 : Nat) ∧ (i 1 : Nat) < 0 * 16 + 16
      omega
    | ⟨2, _⟩ =>
      show cc0_transform_1 (grid0.coords t) 2 * 1536 ≤ (i 2 : Nat) ∧ (i 2 : Nat) < cc0_transform_1 (grid0.coords t) 2 * 1536 + 1536
      rw [lane_word]; omega

end

section
open Cert.ModulationReferenceIdeal.Read

/-- One over one plus the exponential of the negation is the logistic function. -/
theorem logistic_at (C : Vec Ideal S16x2048 .f32) (i : S16x2048.Idx) : val_main_call0_v5 (F := Ideal) C i = Ideal.logistic (C i) := by
  have one : Ideal.ofBits .f32 0x3F800000#32 = 1 := by
    simp [Ideal.ofBits, Ideal.ieee]
    norm_cast
    norm_num
  rw [val_main_call0_v5_apply, val_main_call0_v4_apply, val_main_call0_cst_0_apply, val_main_call0_v3_apply, val_main_call0_v2_apply,
    val_main_call0_cst_apply, val_main_call0_v1_apply, val_main_call0_v0_apply]
  generalize C i = x
  show Ideal.div (Ideal.ofBits .f32 0x3F800000#32) (Ideal.ofBits .f32 0x3F800000#32 + Ideal.exp (-x)) = Ideal.logistic x
  rw [one]
  rfl

/-- The reference's result at an index is the kernel's value there. -/
theorem ref_at (C : Vec Ideal S16x2048 .f32) (W : Vec Ideal S4x2048x12288 .f32) (B : Vec Ideal S4x12288 .f32) (i : S4x16x12288.Idx) :
    val_main_v5 (F := Ideal) C W B i = outAt C W B (i 0).val (i 1).val (i 2).val := by
  rw [val_main_v5_apply, val_main_v4_apply, val_main_v3_apply, val_main_v2_apply, val_main_v1_apply]
  unfold outAt condAt
  show _ + _ = _
  refine congrArg₂ _ (Finset.sum_congr rfl fun k _ => ?_) (at2_of _ _ _ _ rfl rfl)
  rw [val_main_v0_apply, logistic_at, mul_comm]
  have hc : C (ridx_main_v1 (idx_main_v2 i) k) = at2 C (i 1).val k.val := at2_of _ _ _ _ rfl rfl
  rw [hc]
  exact congrArg₂ _ rfl (at3_of _ _ _ _ _ rfl rfl rfl)

end

end Cert.ModulationIdeal.ModulationValue

end
-- ==== Proof.RouteValue.lean ====
/-
  The router's first result, the normed and modulated rows, over the extended reals: what the kernel's array of them and the reference's
  hold at a row and a lane.
-/
module

public import proofs.«01_k».proof.Proof.Gen.RouteIdeal.Value
public import proofs.«01_k».proof.Proof.Gen.RouteReferenceIdeal.Read
public import proofs.«01_k».proof.Proof.Arrays
public import Idealize.ShloMosaic.Lib.StableHlo.ReadAt

@[expose] public section

set_option maxRecDepth 16384

noncomputable section

namespace Cert.RouteIdeal.RouteValue

open Cert.RouteIdeal Cert.RouteIdeal.Gen Cert.RouteIdeal.Value Cert.Arrays
open Idealize.ShloMosaic Idealize.ShloMosaic.TcCoe Idealize.SL.Sem
open Idealize.ShloMosaic.Pipeline (Dat)

theorem hz : (![0, 0] : Fin 2 → Nat) = fun _ => 0 := by funext a; revert a; decide
theorem hz4 : (![0, 0, 0, 0] : Fin 4 → Nat) = fun _ => 0 := by funext a; revert a; decide

theorem row_word (i : grid0.Coords) : cc0_transform_0 i 0 = (i 0).val := by
  have h : ∀ a : Fin 64, (BitVec.ofNat 32 a.val).toNat = a.val := by decide +kernel
  exact h (i 0)

/-- The modulation's sequence: four row tiles to a sequence. -/
theorem shift_word : ∀ t : Fin grid0.N, cc0_transform_2 (grid0.coords t) 0 = (grid0.coords t 0).val / 4 := by decide +kernel
theorem scale_word : ∀ t : Fin grid0.N, cc0_transform_3 (grid0.coords t) 0 = (grid0.coords t 0).val / 4 := by decide +kernel

/-- The mean of row `n`'s squares. -/
def meanAt (X : S32768x2048.Idx → EReal) (n : ℕ) : EReal :=
  Ideal.div (∑ q : Fin 2048, at2 X n q.val * at2 X n q.val) (Ideal.ofBits FTy.f32 0x45000000#32)

/-- Row `n`, lane `k` of the normed and modulated rows. -/
def hAt (X : S32768x2048.Idx → EReal) (G : S2048.Idx → EReal) (M : S16x12288.Idx → EReal) (n k : ℕ) : EReal :=
  at2 X n k * Ideal.rsqrt (meanAt X n + Ideal.ofBits FTy.f32 0x358637BD#32) * at1 G k * (1 + at2 M (n / 2048) (8192 + k)) + at2 M (n / 2048) (6144 + k)

theorem pay5_at (x0 : Vec Ideal S512x2048 .f32) (x1 : Vec Ideal S1x2048 .f32) (x3 x2 : Vec Ideal S1x1x1x2048 .f32)
    (r : Fin 512) (k : Fin 2048) :
    k0_pay5 x0 x1 x3 x2 (ix2 r k) = x0 (ix2 r k)
      * Ideal.rsqrt (Ideal.div (∑ q : Fin 2048, x0 (ix2 r q) * x0 (ix2 r q)) (Ideal.ofBits FTy.f32 0x45000000#32) + Ideal.ofBits FTy.f32 0x358637BD#32)
      * x1 (ix2 0 k) * (1 + x3 (ix4 0 0 0 k)) + x2 (ix4 0 0 0 k) := by
  pointwise [k0_pay5]

/-- What the first tile's body leaves for the rows. -/
theorem out_first (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x1x1x2048 .f32) (harg3 : arg3.IsWhole) (arg4 : Memref sig .tc .vmem S1x1x1x2048 .f32) (harg4 : arg4.IsWhole) (arg5 : Memref sig .tc .vmem S16x2048 .f32) (harg5 : arg5.IsWhole) (arg6 : Memref sig .tc .vmem S16x1 .f32) (harg6 : arg6.IsWhole) (arg7 : Memref sig .tc .vmem S512x2048 .f32) (harg7 : arg7.IsWhole) (arg8 : Memref sig .tc .vmem S2x512 .i32) (harg8 : arg8.IsWhole) (arg9 : Memref sig .tc .vmem S2x512 .f32) (harg9 : arg9.IsWhole) (arg10 : Memref sig .tc .vmem S2x512 .i32) (harg10 : arg10.IsWhole) (arg11 : Memref sig .tc .vmem S16x128 .i32) (harg11 : arg11.IsWhole) (arg12 : Memref sig .tc .vmem S16x1 .f32) (harg12 : arg12.IsWhole) (arg13 : Memref sig .tc .vmem S512x512 .bf16) (harg13 : arg13.IsWhole) (hc0 : cond0_0 i)
    (x0 : Vec Ideal S512x2048 .f32) (x1 : Vec Ideal S1x2048 .f32) (x2 : Vec Ideal S1x1x1x2048 .f32) (x3 : Vec Ideal S1x1x1x2048 .f32) (x4 : Vec Ideal S16x2048 .f32) (x5 : Vec Ideal S16x1 .f32) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = k0_pay5 x0 x1 x3 x2 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_run_names
  rw [View.canon_unit_zero hz]
  simp only [View.readAt_eq_ld, harg1.read_unread, harg2.read_unread, harg3.read_unread, harg4.read_unread,
    View.ld_unit_zero (S := S512x2048) hz, View.ld_unit_zero (S := S1x2048) hz, View.ld_unit_zero (S := S1x1x1x2048) hz4]

/-- What a later tile's body leaves for the rows, whatever it carries. -/
theorem out_later (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S1x1x1x2048 .f32) (harg3 : arg3.IsWhole) (arg4 : Memref sig .tc .vmem S1x1x1x2048 .f32) (harg4 : arg4.IsWhole) (arg5 : Memref sig .tc .vmem S16x2048 .f32) (harg5 : arg5.IsWhole) (arg6 : Memref sig .tc .vmem S16x1 .f32) (harg6 : arg6.IsWhole) (arg7 : Memref sig .tc .vmem S512x2048 .f32) (harg7 : arg7.IsWhole) (arg8 : Memref sig .tc .vmem S2x512 .i32) (harg8 : arg8.IsWhole) (arg9 : Memref sig .tc .vmem S2x512 .f32) (harg9 : arg9.IsWhole) (arg10 : Memref sig .tc .vmem S2x512 .i32) (harg10 : arg10.IsWhole) (arg11 : Memref sig .tc .vmem S16x128 .i32) (harg11 : arg11.IsWhole) (arg12 : Memref sig .tc .vmem S16x1 .f32) (harg12 : arg12.IsWhole) (arg13 : Memref sig .tc .vmem S512x512 .bf16) (harg13 : arg13.IsWhole) (hc0 : ¬cond0_0 i)
    (x0 : Vec Ideal S512x2048 .f32) (x1 : Vec Ideal S1x2048 .f32) (x2 : Vec Ideal S1x1x1x2048 .f32) (x3 : Vec Ideal S1x1x1x2048 .f32) (x4 : Vec Ideal S16x2048 .f32) (x5 : Vec Ideal S16x1 .f32) (xs0 : Vec Ideal S16x1 .f32) (xs1 : Vec Ideal S512x512 .bf16) :
    out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 = k0_pay5 x0 x1 x3 x2 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1)]
  unfold kernelRun0_B
  dsimp only
  sl_unfold_run_names
  rw [View.canon_unit_zero hz]
  simp only [View.readAt_eq_ld, harg1.read_unread, harg2.read_unread, harg3.read_unread, harg4.read_unread,
    View.ld_unit_zero (S := S512x2048) hz, View.ld_unit_zero (S := S1x2048) hz, View.ld_unit_zero (S := S1x1x1x2048) hz4]

section
variable (m : (ℓ : Loc nD τ sig) → Buf (Elt Ideal) ℓ)

/-- The norm's gain the kernel is handed is the argument, as one row. -/
theorem gain_at (c : Dev nD) (k : Fin 2048) : V m c main_v1 (ix2 0 k) = at1 (m ((c : Thread nD τ).loc main_arg1)) k.val := by
  unfold V
  after_reads_at
  exact at1_of _ _ _ rfl

/-- Vector `s` of a sequence's modulation is the argument's lanes from `2048 s`. -/
theorem mod_at (c : Dev nD) (b : Fin 16) (s : Fin 6) (j : Fin 2048) :
    V m c main_v0 (ix4 b s 0 j) = at2 (m ((c : Thread nD τ).loc main_arg2)) b.val (2048 * s.val + j.val) := by
  have hb := b.isLt
  have hs := s.isLt
  have hj := j.isLt
  unfold V
  after_reads_at
  refine at2_of _ _ _ _ ?_ ?_
  · rfl
  · show s.val * 2048 + j.val = _
    omega

theorem iblk0 (c : Dev nD) (t : Fin cfg0.N) (r : Fin 512) (k : Fin 2048) :
    (iblk m c 0 t : Vec Ideal S512x2048 .f32) (ix2 r k) = at2 (m ((c : Thread nD τ).loc main_arg0)) ((grid0.coords t 0).val * 512 + r.val) k.val := by
  unfold iblk
  rw [View.read_apply]
  show V m c main_arg0 _ = _
  rw [V_main_arg0]
  refine at2_of _ _ _ _ ?_ ?_
  · show cc0_transform_0 (grid0.coords t) 0 * 512 + 1 * r.val = _
    rw [row_word]; omega
  · show 0 * 2048 + 1 * k.val = _
    omega

theorem iblk1 (c : Dev nD) (t : Fin cfg0.N) (k : Fin 2048) :
    (iblk m c 1 t : Vec Ideal S1x2048 .f32) (ix2 0 k) = at1 (m ((c : Thread nD τ).loc main_arg1)) k.val := by
  unfold iblk
  rw [View.read_apply]
  refine Eq.trans ?_ (gain_at m c k)
  show V m c main_v1 _ = V m c main_v1 _
  congr 1
  funext a
  apply Fin.ext
  match a with
  | ⟨0, _⟩ => rfl
  | ⟨1, _⟩ => show 0 * 2048 + 1 * k.val = k.val; omega

theorem iblk2 (c : Dev nD) (t : Fin cfg0.N) (k : Fin 2048) :
    (iblk m c 2 t : Vec Ideal S1x1x1x2048 .f32) (ix4 0 0 0 k) = at2 (m ((c : Thread nD τ).loc main_arg2)) ((grid0.coords t 0).val / 4) (6144 + k.val) := by
  have h0 : (grid0.coords t 0).val < 64 := (grid0.coords t 0).isLt
  unfold iblk
  rw [View.read_apply]
  refine Eq.trans ?_ (mod_at m c ⟨(grid0.coords t 0).val / 4, by omega⟩ 3 k)
  show V m c main_v0 _ = V m c main_v0 _
  congr 1
  funext a
  apply Fin.ext
  match a with
  | ⟨0, _⟩ => show cc0_transform_2 (grid0.coords t) 0 * 1 + 1 * 0 = (grid0.coords t 0).val / 4; rw [shift_word]; omega
  | ⟨1, _⟩ => rfl
  | ⟨2, _⟩ => rfl
  | ⟨3, _⟩ => show 0 * 2048 + 1 * k.val = k.val; omega

theorem iblk3 (c : Dev nD) (t : Fin cfg0.N) (k : Fin 2048) :
    (iblk m c 3 t : Vec Ideal S1x1x1x2048 .f32) (ix4 0 0 0 k) = at2 (m ((c : Thread nD τ).loc main_arg2)) ((grid0.coords t 0).val / 4) (8192 + k.val) := by
  have h0 : (grid0.coords t 0).val < 64 := (grid0.coords t 0).isLt
  unfold iblk
  rw [View.read_apply]
  refine Eq.trans ?_ (mod_at m c ⟨(grid0.coords t 0).val / 4, by omega⟩ 4 k)
  show V m c main_v0 _ = V m c main_v0 _
  congr 1
  funext a
  apply Fin.ext
  match a with
  | ⟨0, _⟩ => show cc0_transform_3 (grid0.coords t) 0 * 1 + 1 * 0 = (grid0.coords t 0).val / 4; rw [scale_word]; omega
  | ⟨1, _⟩ => rfl
  | ⟨2, _⟩ => rfl
  | ⟨3, _⟩ => show 0 * 2048 + 1 * k.val = k.val; omega

/-- The stored rows at a point, by the arrays. -/
theorem rows_at (c : Dev nD) (t : Fin cfg0.N) (r : Fin 512) (k : Fin 2048) :
    k0_pay5 (F := Ideal) (iblk m c 0 t) (iblk m c 1 t) (iblk m c 3 t) (iblk m c 2 t) (ix2 r k)
      = hAt (m ((c : Thread nD τ).loc main_arg0)) (m ((c : Thread nD τ).loc main_arg1)) (m ((c : Thread nD τ).loc main_arg2))
          ((grid0.coords t 0).val * 512 + r.val) k.val := by
  have hr := r.isLt
  rw [pay5_at]
  simp only [iblk0, iblk1, iblk2, iblk3]
  unfold hAt meanAt
  rw [show ((grid0.coords t 0).val * 512 + r.val) / 2048 = (grid0.coords t 0).val / 4 by omega]

/-- The rows' block after every point. -/
theorem block_at (c : Dev nD) (t : Fin cfg0.N) :
    (outsAt0 m c t.val t.isLt).1 = k0_pay5 (F := Ideal) (iblk m c 0 t) (iblk m c 1 t) (iblk m c 3 t) (iblk m c 2 t) := by
  by_cases h0 : t.val % 64 = 0
  · have e := congrArg Prod.fst (outsAt0_A m c t h0)
    dsimp only at e
    rw [e, out_first]
  · have e := congrArg Prod.fst (outsAt0_B m c t h0)
    dsimp only at e
    rw [e, out_later]

/-- What the array of the rows holds. -/
def result (c : Dev nD) : Buf (Elt Ideal) ((c : Thread nD τ).loc main_v4_0) := fun (i : S32768x2048.Idx) =>
  hAt (m ((c : Thread nD τ).loc main_arg0)) (m ((c : Thread nD τ).loc main_arg1)) (m ((c : Thread nD τ).loc main_arg2)) (i 0).val (i 1).val

theorem row_word6 (i : grid0.Coords) : cc0_transform_6 i 0 = (i 0).val := row_word i

/-- What point `t` writes back is its block of `result`. -/
theorem flushed_eq (c : Dev nD) (t : Fin cfg0.N) :
    (dats m 0 c).flushed 6 t = ((cfg0.win 6).blk t).view.read (Elt Ideal) (result m c) := by
  rw [flushed6, block_at]
  funext j
  rw [View.read_apply]
  have h0 : (j 0).val < 512 := (j 0).isLt
  have h1 : (j 1).val < 2048 := (j 1).isLt
  have e0 : ((((cfg0.win 6).blk t).view.emb j) 0).val = (grid0.coords t 0).val * 512 + (j 0).val := by
    show cc0_transform_6 (grid0.coords t) 0 * 512 + 1 * (j 0).val = _
    rw [row_word6]; omega
  have e1 : ((((cfg0.win 6).blk t).view.emb j) 1).val = (j 1).val := by
    show 0 * 2048 + 1 * (j 1).val = _
    omega
  show k0_pay5 (F := Ideal) (iblk m c 0 t) (iblk m c 1 t) (iblk m c 3 t) (iblk m c 2 t) _ = result m c (((cfg0.win 6).blk t).view.emb j)
  refine (congrArg (k0_pay5 (F := Ideal) (iblk m c 0 t) (iblk m c 1 t) (iblk m c 3 t) (iblk m c 2 t))
    (?_ : _ = ix2 ⟨(j 0).val, h0⟩ ⟨(j 1).val, h1⟩)).trans ((rows_at m c t ⟨(j 0).val, h0⟩ ⟨(j 1).val, h1⟩).trans ?_)
  · funext a
    match a with
    | ⟨0, _⟩ => rfl
    | ⟨1, _⟩ => rfl
  · unfold result
    simp only [e0, e1]

/-- So the array ends holding `result`: every row and lane lies in one point's block. -/
theorem final (c : Dev nD) : (dats m 0 c).arrAt 6 cfg0.N = result m c :=
  (dats m 0 c).arrAt_eq_of_cover 6 (result m c) (fun t _ => flushed_eq m c t) fun i => by
    have hi0 : (i 0).val < 32768 := (i 0).isLt
    have hi1 : (i 1).val < 2048 := (i 1).isLt
    exact (covered_iff6 i).2 ⟨Nat.zero_le _, hi0, Nat.zero_le _, hi1⟩

end

section
open Cert.RouteReferenceIdeal.Read

/-- The reference's normed and modulated rows. -/
theorem ref_rows (X : Vec Ideal S32768x2048 .f32) (G : Vec Ideal S2048 .f32) (M : Vec Ideal S16x12288 .f32) (i : Cert.RouteReferenceIdeal.S16x2048x2048.Idx) :
    val_main_v26 (F := Ideal) X G M i = hAt X G M ((i 0).val * 2048 + (i 1).val) (i 2).val := by
  have hi0 : (i 0).val < 16 := (i 0).isLt
  have hi1 : (i 1).val < 2048 := (i 1).isLt
  have hi2 : (i 2).val < 2048 := (i 2).isLt
  have row : ∀ (q : Cert.RouteReferenceIdeal.S16x2048x2048.Idx) (l : ℕ), (q 0).val = (i 0).val → (q 1).val = (i 1).val → (q 2).val = l →
      val_main_v7 (F := Ideal) X q = at2 X ((i 0).val * 2048 + (i 1).val) l := by
    intro q l h0 h1 h2
    have hl : (q 2).val < 2048 := (q 2).isLt
    rw [val_main_v7_apply]
    refine at2_of _ _ _ _ ?_ ?_
    · dsimp; omega
    · dsimp; omega
  rw [val_main_v26_apply, val_main_v25_apply, val_main_v4_apply, val_main_v24_apply, val_main_v23_apply, val_main_v22_apply, val_main_v21_apply, val_main_v20_apply,
    val_main_v19_apply, val_main_v18_apply, val_main_v17_apply, val_main_v16_apply, val_main_v15_apply, val_main_v14_apply, val_main_v13_apply,
    val_main_v12_apply, val_main_v11_apply, val_main_v10_apply, val_main_v9_apply, val_main_v5_apply, val_main_v0_apply, val_main_v0_apply,
    val_main_cst_2_apply, val_main_cst_1_apply, val_main_cst_0_apply, val_main_cst_apply, row i _ rfl rfl rfl]
  unfold hAt meanAt
  rw [show ((i 0).val * 2048 + (i 1).val) / 2048 = (i 0).val by omega]
  show _ * Ideal.rsqrt (Ideal.div (Ideal.ofBits FTy.f32 0x00000000#32 + _) _ + _) * _ * (Ideal.ofBits FTy.f32 0x3F800000#32 + _) + _ = _
  rw [show Ideal.ofBits FTy.f32 0x00000000#32 = 0 by simp, show Ideal.ofBits FTy.f32 0x3F800000#32 = 1 by simp, zero_add]
  refine congrArg₂ _ (congrArg₂ _ (congrArg₂ _ (congrArg₂ _ rfl (congrArg _ (congrArg₂ _ (congrArg₂ _ (Finset.sum_congr rfl fun q _ => ?_) rfl) rfl)))
    (at1_of _ _ _ ?_)) (congrArg₂ _ rfl (at2_of _ _ _ _ ?_ ?_))) (at2_of _ _ _ _ ?_ ?_)
  · rw [val_main_v8_apply, row (idx_main_v9 (idx_main_v10 (idx_main_v16 i)) q) q.val rfl rfl rfl]
    rfl
  all_goals rfl

/-- The reference's rows at an index are the kernel's value there. -/
theorem ref_at (X : Vec Ideal S32768x2048 .f32) (G : Vec Ideal S2048 .f32) (M : Vec Ideal S16x12288 .f32) (i : S32768x2048.Idx) :
    val_main_v27 (F := Ideal) X G M i = hAt X G M (i 0).val (i 1).val := by
  have hi0 : (i 0).val < 32768 := (i 0).isLt
  have hi1 : (i 1).val < 2048 := (i 1).isLt
  rw [val_main_v27_apply, ref_rows]
  refine congrArg₂ (hAt X G M) ?_ ?_
  · dsimp; omega
  · dsimp; omega

end

end Cert.RouteIdeal.RouteValue

end
-- ==== Proof.TimeOutValue.lean ====
/-
  The time mixing's output projection with its gate and residual, over the extended reals: what the kernel's result array and the
  reference's hold at a row and a lane.
-/
module

public import proofs.«01_k».proof.Proof.Gen.TimeOutIdeal.Value
public import proofs.«01_k».proof.Proof.Gen.TimeOutReferenceIdeal.Read
public import proofs.«01_k».proof.Proof.Arrays
public import Idealize.ShloMosaic.Lib.StableHlo.ReadAt

@[expose] public section

set_option maxRecDepth 16384

noncomputable section

namespace Cert.TimeOutIdeal.TimeOutValue

open Cert.TimeOutIdeal Cert.TimeOutIdeal.Gen Cert.TimeOutIdeal.Value Cert.Arrays
open Idealize.ShloMosaic Idealize.ShloMosaic.TcCoe Idealize.SL.Sem
open Idealize.ShloMosaic.Pipeline (Dat)

/-- The gate's sequence: two row tiles to a sequence. -/
theorem batch_word : ∀ t : Fin grid0.N, cc0_transform_3 (grid0.coords t) 0 = (grid0.coords t 0).val / 2 := by decide +kernel

theorem row_word (i : grid0.Coords) : cc0_transform_0 i 0 = (i 0).val := by
  have h : ∀ a : Fin 32, (BitVec.ofNat 32 a.val).toNat = a.val := by decide +kernel
  exact h (i 0)

theorem lane_word (i : grid0.Coords) : cc0_transform_1 i 1 = (i 1).val := by
  have h : ∀ a : Fin 4, (BitVec.ofNat 32 a.val).toNat = a.val := by decide +kernel
  exact h (i 1)

theorem hz : (![0, 0] : Fin 2 → Nat) = fun _ => 0 := by funext a; revert a; decide
theorem hz4 : (![0, 0, 0, 0] : Fin 4 → Nat) = fun _ => 0 := by funext a; revert a; decide

/-- Row `n`, lane `l` of the result: the residual plus the gate times the product. -/
def outAt (Y : S32768x2048.Idx → EReal) (W : S2048x2048.Idx → EReal) (X : S32768x2048.Idx → EReal) (M : S16x12288.Idx → EReal) (n l : ℕ) : EReal :=
  at2 X n l + at2 M (n / 2048) (4096 + l) * ∑ k : Fin 2048, at2 Y n k.val * at2 W k.val l

theorem pay_at (x0 : Vec Ideal S1024x2048 .bf16) (x1 : Vec Ideal S2048x512 .bf16) (x2 : Vec Ideal S1024x512 .f32) (x3 : Vec Ideal S1x1x1x512 .f32)
    (r : Fin 1024) (j : Fin 512) :
    k0_pay1 x0 x1 x2 x3 (ix2 r j) = x2 (ix2 r j) + x3 (ix4 0 0 0 j) * ∑ k : Fin 2048, x0 (ix2 r k) * x1 (ix2 k j) := by
  pointwise [k0_pay1]

section
variable (m : (ℓ : Loc nD τ sig) → Buf (Elt Ideal) ℓ)

/-- The weights the kernel is handed are the argument. -/
theorem w_at (c : Dev nD) (i : S2048x2048.Idx) : V m c main_v0 i = m ((c : Thread nD τ).loc main_arg1) i := by
  unfold V
  after_reads_at

/-- Vector `s` of a sequence's modulation is the argument's lanes from `2048 s`. -/
theorem mod_at (c : Dev nD) (b : Fin 16) (s : Fin 6) (j : Fin 2048) :
    V m c main_v1 (ix4 b s 0 j) = at2 (m ((c : Thread nD τ).loc main_arg3)) b.val (2048 * s.val + j.val) := by
  have hb := b.isLt
  have hs := s.isLt
  have hj := j.isLt
  unfold V
  after_reads_at
  refine at2_of _ _ _ _ ?_ ?_
  · rfl
  · show s.val * 2048 + j.val = _
    omega

theorem iblk0 (c : Dev nD) (t : Fin cfg0.N) (r : Fin 1024) (k : Fin 2048) :
    (iblk m c 0 t : Vec Ideal S1024x2048 .bf16) (ix2 r k) = at2 (m ((c : Thread nD τ).loc main_arg0)) ((grid0.coords t 0).val * 1024 + r.val) k.val := by
  unfold iblk
  rw [View.read_apply]
  show V m c main_arg0 _ = _
  rw [V_main_arg0]
  refine at2_of _ _ _ _ ?_ ?_
  · show cc0_transform_0 (grid0.coords t) 0 * 1024 + 1 * r.val = _
    rw [row_word]; omega
  · show 0 * 2048 + 1 * k.val = _
    omega

theorem iblk1 (c : Dev nD) (t : Fin cfg0.N) (k : Fin 2048) (j : Fin 512) :
    (iblk m c 1 t : Vec Ideal S2048x512 .bf16) (ix2 k j) = at2 (m ((c : Thread nD τ).loc main_arg1)) k.val ((grid0.coords t 1).val * 512 + j.val) := by
  unfold iblk
  rw [View.read_apply]
  show V m c main_v0 _ = _
  rw [w_at]
  refine at2_of _ _ _ _ ?_ ?_
  · show 0 * 2048 + 1 * k.val = _
    omega
  · show cc0_transform_1 (grid0.coords t) 1 * 512 + 1 * j.val = _
    rw [lane_word]; omega

theorem iblk2 (c : Dev nD) (t : Fin cfg0.N) (r : Fin 1024) (j : Fin 512) :
    (iblk m c 2 t : Vec Ideal S1024x512 .f32) (ix2 r j)
      = at2 (m ((c : Thread nD τ).loc main_arg2)) ((grid0.coords t 0).val * 1024 + r.val) ((grid0.coords t 1).val * 512 + j.val) := by
  unfold iblk
  rw [View.read_apply]
  show V m c main_arg2 _ = _
  rw [V_main_arg2]
  refine at2_of _ _ _ _ ?_ ?_
  · show cc0_transform_0 (grid0.coords t) 0 * 1024 + 1 * r.val = _
    rw [row_word]; omega
  · show cc0_transform_1 (grid0.coords t) 1 * 512 + 1 * j.val = _
    rw [lane_word]; omega

theorem iblk3 (c : Dev nD) (t : Fin cfg0.N) (j : Fin 512) :
    (iblk m c 3 t : Vec Ideal S1x1x1x512 .f32) (ix4 0 0 0 j)
      = at2 (m ((c : Thread nD τ).loc main_arg3)) ((grid0.coords t 0).val / 2) (4096 + ((grid0.coords t 1).val * 512 + j.val)) := by
  have h0 : (grid0.coords t 0).val < 32 := (grid0.coords t 0).isLt
  have h1 : (grid0.coords t 1).val < 4 := (grid0.coords t 1).isLt
  unfold iblk
  rw [View.read_apply]
  refine Eq.trans ?_ (mod_at m c ⟨(grid0.coords t 0).val / 2, by omega⟩ 2 ⟨(grid0.coords t 1).val * 512 + j.val, by omega⟩)
  show V m c main_v1 _ = V m c main_v1 _
  congr 1
  funext a
  apply Fin.ext
  match a with
  | ⟨0, _⟩ => show cc0_transform_3 (grid0.coords t) 0 * 1 + 1 * 0 = (grid0.coords t 0).val / 2; rw [batch_word]; omega
  | ⟨1, _⟩ => rfl
  | ⟨2, _⟩ => rfl
  | ⟨3, _⟩ => show cc0_transform_1 (grid0.coords t) 1 * 512 + 1 * j.val = (grid0.coords t 1).val * 512 + j.val; rw [lane_word]; omega

/-- What the result array holds. -/
def result (c : Dev nD) : Buf (Elt Ideal) ((c : Thread nD τ).loc main_v2) := fun (i : S32768x2048.Idx) =>
  outAt (m ((c : Thread nD τ).loc main_arg0)) (m ((c : Thread nD τ).loc main_arg1)) (m ((c : Thread nD τ).loc main_arg2))
    (m ((c : Thread nD τ).loc main_arg3)) (i 0).val (i 1).val

/-- What point `t` writes back is its block of `result`. -/
theorem flushed_eq (c : Dev nD) (t : Fin cfg0.N) :
    (dats m 0 c).flushed 4 t = ((cfg0.win 4).blk t).view.read (Elt Ideal) (result m c) := by
  rw [flushed4]
  funext j
  rw [View.read_apply]
  have hb : (grid0.coords t 0).val < 32 := (grid0.coords t 0).isLt
  have h0 : (j 0).val < 1024 := (j 0).isLt
  have h1 : (j 1).val < 512 := (j 1).isLt
  have e0 : ((((cfg0.win 4).blk t).view.emb j) 0).val = (grid0.coords t 0).val * 1024 + (j 0).val := by
    show cc0_transform_0 (grid0.coords t) 0 * 1024 + 1 * (j 0).val = _
    rw [row_word]; omega
  have e1 : ((((cfg0.win 4).blk t).view.emb j) 1).val = (grid0.coords t 1).val * 512 + (j 1).val := by
    show cc0_transform_1 (grid0.coords t) 1 * 512 + 1 * (j 1).val = _
    rw [lane_word]; omega
  have key := pay_at (iblk m c 0 t) (iblk m c 1 t) (iblk m c 2 t) (iblk m c 3 t) ⟨(j 0).val, h0⟩ ⟨(j 1).val, h1⟩
  simp only [iblk0, iblk1, iblk2, iblk3] at key
  show out0_4 (F := Ideal) (iblk m c 0 t) (iblk m c 1 t) (iblk m c 2 t) (iblk m c 3 t) _ = result m c (((cfg0.win 4).blk t).view.emb j)
  unfold out0_4
  rw [View.canon_unit_zero hz]
  simp only [View.ld_unit_zero (S := S1024x2048) hz, View.ld_unit_zero (S := S2048x512) hz, View.ld_unit_zero (S := S1024x512) hz,
    View.ld_unit_zero (S := S1x1x1x512) hz4]
  refine Eq.trans ?_ (key.trans ?_)
  · congr 1
    funext a
    match a with
    | ⟨0, _⟩ => rfl
    | ⟨1, _⟩ => rfl
  · unfold result outAt
    simp only [e0, e1]
    have a1 : ((grid0.coords t 0).val * 1024 + (j 0).val) / 2048 = (grid0.coords t 0).val / 2 := by omega
    simp only [a1]

/-- So the array ends holding `result`: every row and lane lies in one point's block. -/
theorem final (c : Dev nD) : (dats m 0 c).arrAt 4 cfg0.N = result m c :=
  (dats m 0 c).arrAt_eq_of_cover 4 (result m c) (fun t _ => flushed_eq m c t) fun i => by
    have hi0 : (i 0).val < 32768 := (i 0).isLt
    have hi1 : (i 1).val < 2048 := (i 1).isLt
    obtain ⟨t, ht⟩ : ∃ t : Fin cfg0.N, (grid0.coords t 0).val = (i 0).val / 1024 ∧ (grid0.coords t 1).val = (i 1).val / 512 := by
      refine ⟨⟨(i 0).val / 1024 * 4 + (i 1).val / 512, ?_⟩, ?_, ?_⟩
      · show _ < 128
        omega
      · show ((i 0).val / 1024 * 4 + (i 1).val / 512) / 4 % 32 = _
        omega
      · show ((i 0).val / 1024 * 4 + (i 1).val / 512) / 1 % 4 = _
        omega
    refine ⟨t, flush0_4 t, ?_⟩
    show i ∈ ((View.whole main_v2).slice (win0_4.rect t)).set
    rw [View.set_slice_whole, Rect.mem_set_unit]
    intro a
    match a with
    | ⟨0, _⟩ =>
      show cc0_transform_0 (grid0.coords t) 0 * 1024 ≤ (i 0 : Nat) ∧ (i 0 : Nat) < cc0_transform_0 (grid0.coords t) 0 * 1024 + 1024
      rw [row_word]; omega
    | ⟨1, _⟩ =>
      show cc0_transform_1 (grid0.coords t) 1 * 512 ≤ (i 1 : Nat) ∧ (i 1 : Nat) < cc0_transform_1 (grid0.coords t) 1 * 512 + 512
      rw [lane_word]; omega

end

section
open Cert.TimeOutReferenceIdeal.Read

/-- The reference's result at an index is the kernel's value there. -/
theorem ref_at (Y : Vec Ideal S32768x2048 .bf16) (W : Vec Ideal S2048x2048 .f32) (X : Vec Ideal S32768x2048 .f32) (M : Vec Ideal S16x12288 .f32)
    (i : S32768x2048.Idx) : val_main_v14 (F := Ideal) Y W X M i = outAt Y W X M (i 0).val (i 1).val := by
  have hi0 : (i 0).val < 32768 := (i 0).isLt
  have hi1 : (i 1).val < 2048 := (i 1).isLt
  rw [val_main_v14_apply, val_main_v13_apply, val_main_v12_apply, val_main_v11_apply, val_main_v10_apply, val_main_v9_apply, val_main_v3_apply,
    val_main_v0_apply]
  unfold outAt
  show _ + _ * _ = _
  refine congrArg₂ _ (at2_of _ _ _ _ ?_ ?_) (congrArg₂ _ (at2_of _ _ _ _ ?_ ?_) (Finset.sum_congr rfl fun k _ => congrArg₂ _ ?_ (at2_of _ _ _ _ ?_ ?_)))
  · dsimp; omega
  · dsimp; omega
  · dsimp; omega
  · dsimp; omega
  · rw [val_main_v8_apply, val_main_v7_apply]
    refine at2_of _ _ _ _ ?_ ?_
    · dsimp; omega
    · dsimp; omega
  · dsimp
  · dsimp; omega

end

end Cert.TimeOutIdeal.TimeOutValue

end
-- ==== Proof.FinitePre.lean ====
/-
  The precondition, read back: the projections and the lambda vectors hold reals.
-/
module

public import proofs.«01_k».proof.Pre_finite
public import Idealize.ShloMosaic.PureOps.Ideal.Laws
public import Idealize.ShloMosaic.Lib.ReduceAll

@[expose] public section

set_option maxRecDepth 16384

noncomputable section

namespace Cert.FinitePre

open Cert.Pre_finite Idealize.ShloMosaic

/-- The side conditions of the precondition's operations. -/
theorem facts : Cert.Pre_finite.Facts where
  bitsLt_bf16_f32 := by decide
  bcast_S_S32768x6144 := by decide
  reducesTo_S32768x6144_S_d0_1 := by decide
  h_S_ := by decide
  bcast_S_S4x64 := by decide
  reducesTo_S4x64_S_d0_1 := by decide

instance : Subsingleton S_.Idx := ⟨fun i j => funext fun a => a.elim0⟩

/-- A bit that says "the absolute value is below infinity" says that the value is a real. -/
theorem real_of_bit (x : EReal) (h : FloatOps.cmpf (F := Ideal) (φ := .f32) .olt (FloatOps.hostAbsf (F := Ideal) (φ := .f32) x) (Ideal.ofBits .f32 0x7F800000#32) = 1#1) : ∃ r : ℝ, x = (r : EReal) := by
  have top : Ideal.ofBits .f32 0x7F800000#32 = ⊤ := by simp [Ideal.ofBits, Ideal.ieee]
  rw [top] at h
  change Ideal.cmp .olt (max x (-x)) ⊤ = 1#1 at h
  induction x with
  | bot => simp [Ideal.cmp] at h
  | top => simp [Ideal.cmp] at h
  | coe r => exact ⟨r, rfl⟩

/-- Under the precondition every element of the projections and of the lambda vectors is a real. -/
theorem reals (X : FVec Ideal S32768x6144 .bf16) (L : FVec Ideal S4x64 .f32) (g : FVec Ideal S128 .f32)
    (h : @fn facts Ideal _ X L g = fun _ => 1#1) :
    (∀ i, ∃ r : ℝ, X i = (r : EReal)) ∧ ∀ i, ∃ r : ℝ, L i = (r : EReal) := by
  have h0 := congrFun h (fun a => a.elim0)
  obtain ⟨ha, hb⟩ := IntOp.andi_eq_one.1 h0
  constructor
  · intro i
    exact real_of_bit _ (Host.reduce_andi_all _ _ facts.reducesTo_S32768x6144_S_d0_1 facts.h_S_ _ ha i)
  · intro i
    exact real_of_bit _ (Host.reduce_andi_all _ _ facts.reducesTo_S4x64_S_d0_1 facts.h_S_ _ hb i)

end Cert.FinitePre

end
-- ==== Proof.ExpertsFrame.lean ====
/-
  The run of the experts' kernel, for any contents of its two tables under which every expert's block lies inside the weights:
  the launch's set-up, what the body leaves in the result's block at a point, and the launch. Stated for floats of any kind, so
  that both frames come from it.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.ExpertsIdeal.ExpertsFrame

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := by funext a; revert a; decide
theorem hz3 : (![0, 0, 0] : Fin 3 → Nat) = fun _ => 0 := by funext a; revert a; decide

/-- The bit of a word comparison, widened and compared with zero, is the bit. -/
theorem wide_bit (p : Prop) [Decidable p] : Scalar.cmpi .ne (Scalar.extui (BitVec.ofBool (decide p)) : BitVec 32) 0#32 = 1#1 ↔ p := by
  by_cases h : p
  · simp only [h, decide_true, iff_true]; decide
  · simp only [h, decide_false, iff_false]; decide

/-- The grid's coordinate as a signed word is itself. -/
theorem coord_int (i : grid0.Coords) : (BitVec.ofNat 32 (i 0).val).toInt = ((i 0).val : ℤ) := by
  have h : ∀ a : Fin 272, (BitVec.ofNat 32 a.val).toInt = (a.val : ℤ) := by decide +kernel
  exact h (i 0)

/-- The body's first condition: the block is one of those in use. -/
theorem used_iff (i : grid0.Coords) (n : BitVec 32) : k0_cond1 i n = 1#1 ↔ ((i 0).val : ℤ) < n.toInt := by
  rw [← coord_int]
  exact wide_bit _

/-- The body's second condition: the block is past those in use. -/
theorem past_iff (i : grid0.Coords) (n : BitVec 32) : k0_cond2 i n = 1#1 ↔ n.toInt ≤ ((i 0).val : ℤ) := by
  rw [← coord_int]
  exact wide_bit _

section
variable (m : (ℓ : Loc nD τ sig) → Buf (Elt F) ℓ) (ρ : Dev nD → PrngReg)

/-! ## The launch's set-up -/

/-- The buffers a core finds when the call starts: the call is all there is, so they are as launched. -/
abbrev V (c : Dev nD) (b : Ref sig .tc) : Buf (Elt F) ((c : Thread nD τ).loc b) := m ((c : Thread nD τ).loc b)

set_option maxHeartbeats 800000 in
theorem main_runs (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables as launched, on the one device. -/
def tables : pre0.Contents (Elt F) := fun j => V m (0 : Dev nD) (pre0.ref j)

theorem tables_eq (c : Dev nD) (j : Fin 2) : V m c (pre0.ref j) = tables m j := by
  obtain rfl : c = 0 := Subsingleton.elim _ _; rfl

/-- Every block an index map names is inside its array. -/
abbrev Inside : Prop := ok0 (F := F) (tables m)
abbrev adm (hO : Inside m) : (pcfg0 (F := F)).Adm := ⟨tables m, hO⟩
abbrev cfgM (hO : Inside m) : Pipeline.Cfg sig Λ₀ := cfg0 (adm m hO)

abbrev expertM : Memref sig .tc .smem S272 .i32 := Memref.whole main_arg1
abbrev usedM : Memref sig .tc .smem S1 .i32 := Memref.whole main_arg2

/-- What a table holds on a core, and half of the share of it: the call keeps the other half. -/
abbrev TableBuf (c : Dev nD) {S : Shape} {e : EltTy} (M : Memref sig .tc .smem S e) : Type := Buf (Elt F) (M.view.loc (c : Thread nD τ))
abbrev holds (c : Dev nD) {S : Shape} {e : EltTy} (M : Memref sig .tc .smem S e) (f : TableBuf (F := F) c M) : sProp 𝕄 :=
  M.view.loc (c : Thread nD τ) ↦{fullShare.right} f

theorem tables_held (c : Dev nD) :
    (Pipeline.ΦT pre0 (tables m) c : sProp 𝕄) = iprop(holds c expertM (tables m 0) ∗ holds c usedM (tables m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point, read off its array as the call finds it. -/
def blockOf (hO : Inside m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

end

/-! ## One run of the body -/

/-- The number of blocks in use, as the body reads it. -/
abbrev usedWord (c : Dev nD) (f : TableBuf (F := F) c usedM) : BitVec 32 :=
  usedM.view.readAt (Elt F) (Rect.unit (s := S1) ![0] S1.size inb_S1_S1_0).toLoadRect f (Shape.Idx.first (numel1_S1.symm ▸ Nat.one_pos))

/-- What the body leaves in the result's block: the expert's output for a block in use, zeros past them. -/
def blockOut (i : grid0.Coords) (n : BitVec 32) (x : Vec F S256x2048 .f32) (g u : Vec F S1x2048x1024 .f32) (d : Vec F S1x1024x2048 .f32) :
    Vec F S256x2048 .f32 :=
  if k0_cond1 i n = 1#1 then k0_pay1 x g u d else k0_pay2

/-- A store of a whole block leaves what was stored. -/
theorem read_whole_store {M : Memref sig .tc .vmem S256x2048 .f32} (f : M.view.ty.Contents (Elt F)) (w w' : S256x2048.Idx → Elt F .f32) (h : w = w') :
    M.view.read (Elt F) (M.view.writes (Elt F) f [⟨Rect.unit (s := S256x2048) ![0, 0] S256x2048.size inb_S256x2048_S256x2048_0_0, w⟩]) = w' := by
  subst h
  exact (View.read_writes_eq_canon _ _ _ (View.cover_of_tiledL _ S256x2048.size (by sl_kernel_rfl))).trans
    (View.canon_unit_zero (S := S256x2048) hz _ _)

section
variable (c : Dev nD) (i : grid0.Coords)
  (arg3 : Memref sig .tc .vmem S256x2048 .f32) (harg3 : arg3.IsWhole)
  (arg4 : Memref sig .tc .vmem S1x2048x1024 .f32) (harg4 : arg4.IsWhole) (arg5 : Memref sig .tc .vmem S1x2048x1024 .f32) (harg5 : arg5.IsWhole)
  (arg6 : Memref sig .tc .vmem S1x1024x2048 .f32) (harg6 : arg6.IsWhole) (arg7 : Memref sig .tc .vmem S256x2048 .f32) (harg7 : arg7.IsWhole)
  (x : Vec F S256x2048 .f32) (g u : Vec F S1x2048x1024 .f32) (d : Vec F S1x1024x2048 .f32)
  (be : TableBuf (F := F) c expertM) (nu : TableBuf (F := F) c usedM)

/-- A block in use: the body stores the expert's output. -/
theorem run_used (h1 : k0_cond1 i (usedWord c nu) = 1#1) (h2 : ¬ k0_cond2 i (usedWord c nu) = 1#1) (E : Set ℕ) (K : PUnit → sProp 𝕄) :
    iprop(owns (c : Thread nD τ) arg3 fullShare x ∗ owns (c : Thread nD τ) arg4 fullShare g ∗ owns (c : Thread nD τ) arg5 fullShare u
        ∗ owns (c : Thread nD τ) arg6 fullShare d ∗ (∃ y, owns (c : Thread nD τ) arg7 fullShare y) ∗ holds c expertM be ∗ holds c usedM nu
        ∗ (iprop(owns (c : Thread nD τ) arg3 fullShare x ∗ owns (c : Thread nD τ) arg4 fullShare g ∗ owns (c : Thread nD τ) arg5 fullShare u
            ∗ owns (c : Thread nD τ) arg6 fullShare d ∗ owns (c : Thread nD τ) arg7 fullShare (k0_pay1 x g u d)
            ∗ holds c expertM be ∗ holds c usedM nu) -∗ K ⟨⟩))
      ⊢ wp frame (wpE (defs₀ (F := F)) Variants.none c none) E
          (cc0_moe_experts i expertM (Memref.isWhole_whole _) usedM (Memref.isWhole_whole _) arg3 harg3 arg4 harg4 arg5 harg5 arg6 harg6 arg7 harg7) K := by
  simp only [cc0_moe_experts_eq_skeleton]; unfold cc0_moe_experts_skel
  unfold owns
  iintro ⟨⟨%fx, %hx, Hx⟩, ⟨%fg, %hg, Hg⟩, ⟨%fu, %hu, Hu⟩, ⟨%fd, %hd, Hd⟩, ⟨%y, %fy, -, Hy⟩, Hbe, Hnu, Hk⟩
  obtain rfl := harg3.eq_unread hx; obtain rfl := harg4.eq_unread hg; obtain rfl := harg5.eq_unread hu; obtain rfl := harg6.eq_unread hd
  sl_exec (disch := first | sl_exact h1 | sl_exact h2)
  sl_step
  iapply Hk
  isplitl [Hx]
  · iexists _; isplitr; · ipureintro; exact harg3.read_unread _
    iexact Hx
  isplitl [Hg]
  · iexists _; isplitr; · ipureintro; exact harg4.read_unread _
    iexact Hg
  isplitl [Hu]
  · iexists _; isplitr; · ipureintro; exact harg5.read_unread _
    iexact Hu
  isplitl [Hd]
  · iexists _; isplitr; · ipureintro; exact harg6.read_unread _
    iexact Hd
  isplitl [Hy]
  · iexists _; isplitr
    swap; · iexact Hy
    ipureintro
    refine read_whole_store _ _ _ ?_
    rw [View.readAt_full, View.readAt_full, View.readAt_full, View.readAt_full, hx, hg, hu, hd]
  isplitl [Hbe]; · iexact Hbe
  iexact Hnu

/-- A block past those in use: the body stores zeros. -/
theorem run_past (h1 : ¬ k0_cond1 i (usedWord c nu) = 1#1) (h2 : k0_cond2 i (usedWord c nu) = 1#1) (E : Set ℕ) (K : PUnit → sProp 𝕄) :
    iprop(owns (c : Thread nD τ) arg7 fullShare x ∗ holds c expertM be ∗ holds c usedM nu
        ∗ (iprop(owns (c : Thread nD τ) arg7 fullShare (k0_pay2 (F := F)) ∗ holds c expertM be ∗ holds c usedM nu) -∗ K ⟨⟩))
      ⊢ wp frame (wpE (defs₀ (F := F)) Variants.none c none) E
          (cc0_moe_experts i expertM (Memref.isWhole_whole _) usedM (Memref.isWhole_whole _) arg3 harg3 arg4 harg4 arg5 harg5 arg6 harg6 arg7 harg7) K := by
  simp only [cc0_moe_experts_eq_skeleton]; unfold cc0_moe_experts_skel
  unfold owns
  iintro ⟨⟨%fy, -, Hy⟩, Hbe, Hnu, Hk⟩
  sl_exec (disch := first | sl_exact h1 | sl_exact h2)
  sl_step
  iapply Hk
  isplitl [Hy]
  · iexists _; isplitr
    swap; · iexact Hy
    ipureintro
    exact read_whole_store _ _ _ rfl
  isplitl [Hbe]; · iexact Hbe
  iexact Hnu

/-- Either way: one of the two conditions holds, and the body leaves the block's value. -/
theorem run_block (E : Set ℕ) (K : PUnit → sProp 𝕄) :
    iprop(owns (c : Thread nD τ) arg3 fullShare x ∗ owns (c : Thread nD τ) arg4 fullShare g ∗ owns (c : Thread nD τ) arg5 fullShare u
        ∗ owns (c : Thread nD τ) arg6 fullShare d ∗ (∃ y, owns (c : Thread nD τ) arg7 fullShare y) ∗ holds c expertM be ∗ holds c usedM nu
        ∗ (iprop(owns (c : Thread nD τ) arg3 fullShare x ∗ owns (c : Thread nD τ) arg4 fullShare g ∗ owns (c : Thread nD τ) arg5 fullShare u
            ∗ owns (c : Thread nD τ) arg6 fullShare d ∗ owns (c : Thread nD τ) arg7 fullShare (blockOut i (usedWord c nu) x g u d)
            ∗ holds c expertM be ∗ holds c usedM nu) -∗ K ⟨⟩))
      ⊢ wp frame (wpE (defs₀ (F := F)) Variants.none c none) E
          (cc0_moe_experts i expertM (Memref.isWhole_whole _) usedM (Memref.isWhole_whole _) arg3 harg3 arg4 harg4 arg5 harg5 arg6 harg6 arg7 harg7) K := by
  unfold blockOut
  by_cases h : ((i 0).val : ℤ) < (usedWord c nu).toInt
  · have h1 := (used_iff i (usedWord c nu)).2 h
    rw [if_pos h1]
    exact run_used c i arg3 harg3 arg4 harg4 arg5 harg5 arg6 harg6 arg7 harg7 x g u d be nu h1
      (fun h2 => absurd ((past_iff i _).1 h2) (not_le.2 h)) E K
  · have h1 : ¬ k0_cond1 i (usedWord c nu) = 1#1 := fun h1 => h ((used_iff i _).1 h1)
    rw [if_neg h1]
    iintro ⟨Hx, Hg, Hu, Hd, ⟨%y, Hy⟩, Hbe, Hnu, Hk⟩
    iapply (run_past c i arg3 harg3 arg4 harg4 arg5 harg5 arg6 harg6 arg7 harg7 y be nu h1 ((past_iff i _).2 (not_lt.1 h)) E K)
    isplitl [Hy]; · iexact Hy
    isplitl [Hbe]; · iexact Hbe
    isplitl [Hnu]; · iexact Hnu
    iintro ⟨Hy, Hbe, Hnu⟩
    iapply Hk
    isplitl [Hx]; · iexact Hx
    isplitl [Hg]; · iexact Hg
    isplitl [Hu]; · iexact Hu
    isplitl [Hd]; · iexact Hd
    isplitl [Hy]; · iexact Hy
    isplitl [Hbe]; · iexact Hbe
    iexact Hnu

end

/-! ## What each point leaves -/

section
variable (m : (ℓ : Loc nD τ sig) → Buf (Elt F) ℓ) (ρ : Dev nD → PrngReg)

/-- Each window's staging block at a point. -/
abbrev stage0 (hO : Inside m) (t : Fin (cfgM m hO).N) : Memref sig .tc .vmem S256x2048 .f32 := spec0_0.stage ((cfgM m hO).slots t 0)
abbrev stage1 (hO : Inside m) (t : Fin (cfgM m hO).N) : Memref sig .tc .vmem S1x2048x1024 .f32 := spec0_1.stage ((cfgM m hO).slots t 1)
abbrev stage2 (hO : Inside m) (t : Fin (cfgM m hO).N) : Memref sig .tc .vmem S1x2048x1024 .f32 := spec0_2.stage ((cfgM m hO).slots t 2)
abbrev stage3 (hO : Inside m) (t : Fin (cfgM m hO).N) : Memref sig .tc .vmem S1x1024x2048 .f32 := spec0_3.stage ((cfgM m hO).slots t 3)
abbrev stage4 (hO : Inside m) (t : Fin (cfgM m hO).N) : Memref sig .tc .vmem S256x2048 .f32 := spec0_4.stage ((cfgM m hO).slots t 4)

/-- The result's block after a point. -/
def leaves (hO : Inside m) (c : Dev nD) (t : Fin (cfgM m hO).N) : Vec F S256x2048 .f32 :=
  blockOut (grid0.coords t) (usedWord c (tables m 1)) (blockOf m hO c 0 t) (blockOf m hO c 1 t) (blockOf m hO c 2 t) (blockOf m hO c 3 t)

/-- The data of the one call: the inputs' blocks stay, the result's holds what the body leaves. -/
def dats (hO : Inside m) (_ : Fin 1) (c : Dev nD) : Dat τ (Elt F) Unit ℕ (UR sig nD τ) ℕ (cfgM m hO) c where
  A w := V m c (Pipeline.arrRef spec0 w)
  after w t := match w with
    | ⟨0, _⟩ => blockOf m hO c 0 t
    | ⟨1, _⟩ => blockOf m hO c 1 t
    | ⟨2, _⟩ => blockOf m hO c 2 t
    | ⟨3, _⟩ => blockOf m hO c 3 t
    | ⟨4, _⟩ => leaves m hO c t
  Φ _ := iprop(Pipeline.ΦA spec0 c ∗ Pipeline.ΦT pre0 (tables m) c)
  q _ := fullShare
  owed _ := 0

theorem A_eq (hO : Inside m) (c : Dev nD) (w : Fin (cfgM m hO).W) : (dats m hO 0 c).A w = V m c (Pipeline.arrRef spec0 w) := by
  dsimp only [dats]

theorem after0 (hO : Inside m) (c : Dev nD) (t : Fin (cfgM m hO).N) : (dats m hO 0 c).after 0 t = blockOf m hO c 0 t := by dsimp only [dats]; try rfl
theorem after1 (hO : Inside m) (c : Dev nD) (t : Fin (cfgM m hO).N) : (dats m hO 0 c).after 1 t = blockOf m hO c 1 t := by dsimp only [dats]; try rfl
theorem after2 (hO : Inside m) (c : Dev nD) (t : Fin (cfgM m hO).N) : (dats m hO 0 c).after 2 t = blockOf m hO c 2 t := by dsimp only [dats]; try rfl
theorem after3 (hO : Inside m) (c : Dev nD) (t : Fin (cfgM m hO).N) : (dats m hO 0 c).after 3 t = blockOf m hO c 3 t := by dsimp only [dats]; try rfl
theorem after4 (hO : Inside m) (c : Dev nD) (t : Fin (cfgM m hO).N) : (dats m hO 0 c).after 4 t = leaves m hO c t := by dsimp only [dats]; try rfl

/-- An input's staging block holds its block before every point: fetched there, or there from the point before. -/
theorem before0 (hO : Inside m) (c : Dev nD) (t : Fin (cfgM m hO).N) (y) : (dats m hO 0 c).before 0 t y = blockOf m hO c 0 t :=
  ((dats m hO 0 c).before_in_eq_fetched 0 rfl (fun _ => rfl) (fun _ _ _ => rfl)
    (fun t => by rw [after0]; unfold Dat.blockOf blockOf; rw [A_eq]; try rfl) t y).trans (by unfold Dat.fetched Dat.blockOf blockOf; rw [A_eq]; try rfl)
theorem before1 (hO : Inside m) (c : Dev nD) (t : Fin (cfgM m hO).N) (y) : (dats m hO 0 c).before 1 t y = blockOf m hO c 1 t :=
  ((dats m hO 0 c).before_in_eq_fetched 1 rfl (fun _ => rfl) (fun _ _ _ => rfl)
    (fun t => by rw [after1]; unfold Dat.blockOf blockOf; rw [A_eq]; try rfl) t y).trans (by unfold Dat.fetched Dat.blockOf blockOf; rw [A_eq]; try rfl)
theorem before2 (hO : Inside m) (c : Dev nD) (t : Fin (cfgM m hO).N) (y) : (dats m hO 0 c).before 2 t y = blockOf m hO c 2 t :=
  ((dats m hO 0 c).before_in_eq_fetched 2 rfl (fun _ => rfl) (fun _ _ _ => rfl)
    (fun t => by rw [after2]; unfold Dat.blockOf blockOf; rw [A_eq]; try rfl) t y).trans (by unfold Dat.fetched Dat.blockOf blockOf; rw [A_eq]; try rfl)
theorem before3 (hO : Inside m) (c : Dev nD) (t : Fin (cfgM m hO).N) (y) : (dats m hO 0 c).before 3 t y = blockOf m hO c 3 t :=
  ((dats m hO 0 c).before_in_eq_fetched 3 rfl (fun _ => rfl) (fun _ _ _ => rfl)
    (fun t => by rw [after3]; unfold Dat.blockOf blockOf; rw [A_eq]; try rfl) t y).trans (by unfold Dat.fetched Dat.blockOf blockOf; rw [A_eq]; try rfl)

/-- The result's block is written back at every point. -/
theorem flush4 (hO : Inside m) : ∀ t : Fin (cfgM m hO).N, ((cfgM m hO).win 4).flush t = true :=
  (fun t => (Pipeline.Window.flushOf_reads cc0_transform_4 reads0_4 hreads0_4 0 (by decide) (by decide)
      (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true)

/-- The body stores the result's block at every point: one of its two conditions holds. -/
theorem idle4 (hO : Inside m) (i : grid0.Coords) : (cfgM m hO).idle 4 i = false := by
  show (!(k0_cond1 i ((tables m).atD 1 ![0]) == 1#1) && !(k0_cond2 i ((tables m).atD 1 ![0]) == 1#1)) = false
  by_cases h : ((i 0).val : ℤ) < ((tables m).atD 1 ![0] : BitVec 32).toInt
  · rw [(used_iff i _).2 h]; rfl
  · rw [(past_iff i _).2 (not_lt.1 h)]; simp

/-! ## The launch -/

/-- The body as the call runs it at a point. -/
abbrev bodyAt (hO : Inside m) (t : Fin (cfgM m hO).N) : Prog (TpuEff nD τ sig (Elt F) Λ₀ .tc) PUnit :=
  cc0_moe_experts (grid0.coords t) expertM (Memref.isWhole_whole _) usedM (Memref.isWhole_whole _)
    (stage0 m hO t) (hstage0_0 (((cfgM m hO).slots t 0).cast nbuf0_0)) (stage1 m hO t) (hstage0_1 (((cfgM m hO).slots t 1).cast nbuf0_1))
    (stage2 m hO t) (hstage0_2 (((cfgM m hO).slots t 2).cast nbuf0_2)) (stage3 m hO t) (hstage0_3 (((cfgM m hO).slots t 3).cast nbuf0_3))
    (stage4 m hO t) (hstage0_4 (((cfgM m hO).slots t 4).cast nbuf0_4))

def bodyPre (hO : Inside m) (c : Dev nD) (t : Fin (cfgM m hO).N) : sProp 𝕄 :=
  iprop((dats m hO 0 c).Φ t.castSucc ∗ (dats m hO 0 c).owesAt () t.castSucc
    ∗ (∃ y, owns (c : Thread nD τ) (stage0 m hO t) fullShare ((dats m hO 0 c).before 0 t y))
    ∗ (∃ y, owns (c : Thread nD τ) (stage1 m hO t) fullShare ((dats m hO 0 c).before 1 t y))
    ∗ (∃ y, owns (c : Thread nD τ) (stage2 m hO t) fullShare ((dats m hO 0 c).before 2 t y))
    ∗ (∃ y, owns (c : Thread nD τ) (stage3 m hO t) fullShare ((dats m hO 0 c).before 3 t y))
    ∗ (∃ y, owns (c : Thread nD τ) (stage4 m hO t) fullShare ((dats m hO 0 c).before 4 t y)))

def bodyPost (hO : Inside m) (c : Dev nD) (t : Fin (cfgM m hO).N) : sProp 𝕄 :=
  iprop((dats m hO 0 c).Φ t.succ ∗ (dats m hO 0 c).owesAt () t.succ
    ∗ owns (c : Thread nD τ) (stage0 m hO t) fullShare ((dats m hO 0 c).after 0 t)
    ∗ owns (c : Thread nD τ) (stage1 m hO t) fullShare ((dats m hO 0 c).after 1 t)
    ∗ owns (c : Thread nD τ) (stage2 m hO t) fullShare ((dats m hO 0 c).after 2 t)
    ∗ owns (c : Thread nD τ) (stage3 m hO t) fullShare ((dats m hO 0 c).after 3 t)
    ∗ owns (c : Thread nD τ) (stage4 m hO t) fullShare ((dats m hO 0 c).after 4 t))

set_option maxHeartbeats 800000 in
/-- The body at any point. -/
theorem sound_body (hO : Inside m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tables m) c) from rfl, tables_held]
  unfold leaves
  iintro ⟨⟨HΦ, ⟨Hbe, Hnu⟩⟩, Ho, ⟨%y0, Hx⟩, ⟨%y1, Hg⟩, ⟨%y2, Hu⟩, ⟨%y3, Hd⟩, ⟨%y4, Hy⟩⟩
  iapply (run_block c (grid0.coords t) _ _ _ _ _ _ _ _ _ _ (blockOf m hO c 0 t) (blockOf m hO c 1 t) (blockOf m hO c 2 t) (blockOf m hO c 3 t)
    (tables m 0) (tables m 1) Set.univ _)
  isplitl [Hx]; · iexact Hx
  isplitl [Hg]; · iexact Hg
  isplitl [Hu]; · iexact Hu
  isplitl [Hd]; · iexact Hd
  isplitl [Hy]; · iexists _; iexact Hy
  isplitl [Hbe]; · iexact Hbe
  isplitl [Hnu]; · iexact Hnu
  iintro ⟨Hx, Hg, Hu, Hd, Hy, Hbe, Hnu⟩
  isplitl [HΦ Hbe Hnu]
  · isplitl [HΦ]
    · iexact HΦ
    isplitl [Hbe]; · iexact Hbe
    iexact Hnu
  isplitl [Ho]; · iexact Ho
  isplitl [Hx]; · iexact Hx
  isplitl [Hg]; · iexact Hg
  isplitl [Hu]; · iexact Hu
  isplitl [Hd]; · iexact Hd
  iexact Hy

theorem body_row (hO : Inside m) (t : Fin (cfgM m hO).N) :
    defs₀ (F := F) .tc (cfgM m hO).body ((cfgM m hO).bodyArgs t ((cfgM m hO).slots t)) = bodyAt m hO t := by
  unfold defs₀; rw [Defs.onTc_tc]

/-- What the launch asks of the body, at every point. -/
theorem body_sound (hO : Inside m) (c : Dev nD) : BodyObligation (dats (F := F) m hO 0 c) (defs₀ (F := F)) Variants.none () Set.univ := fun t => by
  rw [bigSep_W0, bigSep_W0, body_row m hO, idle4 m hO]
  exact triple_restated (sound_body m hO c t) rfl .rfl fun _ => .rfl

set_option backward.isDefEq.respectTransparency.types false in
/-- Every run ends, with the arrays at what the points leave, every other buffer as it was, and no semaphore raised. -/
theorem run_main (hO : Inside m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_sound m hO c).loose) (hshare := fun c => (dats m hO 0 c).share_full fun _ => rfl)
    (howed := fun _ _ => rfl) (V := V m) (hmain := main_runs m Variants.none) (hA := A_eq m hO) (hpf := tables_eq m)
    (hΦ := fun _ _ => rfl)

/-- What a run leaves: the result's array at what the points leave, the arguments as they were, no semaphore raised. -/
theorem run_leaves (hO : Inside m) : θ_run defs (onTc (τ := τ) (main (F := F))) ⟨m, fun _ => 0, ρ⟩ (fun r =>
    (∀ c : Dev nD, r.2.mem ((c.tc : Thread nD τ).loc main_v0) = (dats m hO 0 c).arrAt 4 (cfgM m hO).N)
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h.1 c).1 4, fun c =>
    ⟨((h.1 c).1 0).trans (((dats m hO 0 c).arrAt_in 0 rfl _).trans (A_eq m hO c 0)),
      (h.1 c).2 main_arg1 (by decide : main_arg1 ∈ Pipeline.restRefs sig spec0),
      (h.1 c).2 main_arg2 (by decide : main_arg2 ∈ Pipeline.restRefs sig spec0),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_main m ρ hO)

end

end Cert.ExpertsIdeal.ExpertsFrame

end
-- ==== Proof.ExpertsPre.lean ====
/-
  The experts' preconditions, read back: every block's expert is one of the sixteen, and a block past those in use holds zeros.
-/
module

public import proofs.«01_k».proof.Pre_known
public import proofs.«01_k».proof.Pre_routed
public import Idealize.ShloMosaic.PureOps.Ideal.Laws
public import Idealize.ShloMosaic.Lib.ReduceAll
public import Idealize.ShloMosaic.Lib.WordCmp
public import Idealize.ShloMosaic.Lib.Pointwise

@[expose] public section

set_option maxRecDepth 16384

noncomputable section

namespace Cert.ExpertsPre

open Idealize.ShloMosaic Idealize.ShloMosaic.WordCmp

/-- The side conditions of the first precondition's operations. -/
theorem knownFacts : Cert.Pre_known.Facts where
  bcast_S_S272 := by decide
  reducesTo_S272_S_d0 := by decide
  h_S_ := by decide

/-- The side conditions of the second precondition's operations. -/
theorem routedFacts : Cert.Pre_routed.Facts where
  shapeCasts_S272x256x2048_S69632x2048 := by decide
  bcast_S_S272 := by decide
  reducesTo_S272_S_d0 := by decide
  h_S_ := by decide
  shapeCasts_S1_S_ := by decide
  bcast_S_S69632x2048 := by decide
  reducesTo_S69632x2048_S_d0_1 := by decide

instance : Subsingleton Cert.Pre_known.S_.Idx := ⟨fun i j => funext fun a => a.elim0⟩

/-- The two comparison bits of an expert's number say that it is one of the sixteen. -/
theorem range_of_bit (e : BitVec 32) (h : IntOp.andi (IntOp.cmpi .sge e 0#32) (IntOp.cmpi .slt e 16#32) = 1#1) :
    0 ≤ e.toInt ∧ e.toInt < 16 := by
  obtain ⟨h1, h2⟩ := IntOp.andi_eq_one.1 h
  rw [cmpi_sge_eq, ofBool_decide_eq_one_iff] at h1
  rw [cmpi_slt_eq, ofBool_decide_eq_one_iff] at h2
  exact ⟨h1, h2⟩

/-- A word in that range is the same number read without its sign. -/
theorem nat_of_range (e : BitVec 32) (h : 0 ≤ e.toInt ∧ e.toInt < 16) : e.toNat < 16 ∧ e.toInt = (e.toNat : ℤ) := by
  have h1 := BitVec.toInt_eq_toNat_cond e
  have h2 := e.isLt
  obtain ⟨h3, h4⟩ := h
  split at h1 <;> constructor <;> omega

variable {F : FTy → Type} [FloatOps F]

theorem known (xs : FVec F Cert.Pre_known.S69632x2048 .f32) (be : IVec Cert.Pre_known.S272 32) (n : IVec Cert.Pre_known.S1 32)
    (g u : FVec F Cert.Pre_known.S16x2048x1024 .f32) (d : FVec F Cert.Pre_known.S16x1024x2048 .f32)
    (h : @Cert.Pre_known.fn knownFacts F _ xs be n g u d = fun _ => 1#1) (i : Cert.Pre_known.S272.Idx) :
    0 ≤ (be i).toInt ∧ (be i).toInt < 16 := by
  have h0 := congrFun h (fun a => a.elim0)
  exact range_of_bit _ (Host.reduce_andi_all _ _ knownFacts.reducesTo_S272_S_d0 knownFacts.h_S_ _ h0 i)

/-- The bit that says a value is zero. -/
theorem zero_of_bit (x : EReal) (h : FloatOps.cmpf (F := Ideal) (φ := .f32) .oeq x (Ideal.ofBits .f32 0x00000000#32) = 1#1) : x = 0 := by
  have z : Ideal.ofBits .f32 0x00000000#32 = 0 := by simp [Ideal.ofBits, Ideal.ieee]
  rw [z] at h
  change Ideal.cmp .oeq x 0 = 1#1 at h
  by_contra hx
  simp [Ideal.cmp, hx] at h

/-- One of two bits holds. -/
theorem or_bits (a b : BitVec 1) (h : IntOp.ori a b = 1#1) : a = 1#1 ∨ b = 1#1 := by
  revert a b; decide

/-- A block's number as a signed word is itself. -/
theorem block_int (b : ℕ) (hb : b < 272) : (BitVec.ofNat 32 b).toInt = (b : ℤ) := by
  have h : ∀ a : Fin 272, (BitVec.ofNat 32 a.val).toInt = (a.val : ℤ) := by decide +kernel
  exact h ⟨b, hb⟩

/-- A vector of one element has one index. -/
theorem one_index (i j : (⟨1, ![1]⟩ : Shape).Idx) : i = j := by
  funext a
  match a with
  | ⟨0, _⟩ => exact Subsingleton.elim (α := Fin 1) (i 0) (j 0)

theorem routed (xs : FVec Ideal Cert.Pre_routed.S69632x2048 .f32) (be : IVec Cert.Pre_routed.S272 32) (n : IVec Cert.Pre_routed.S1 32)
    (g u : FVec Ideal Cert.Pre_routed.S16x2048x1024 .f32) (d : FVec Ideal Cert.Pre_routed.S16x1024x2048 .f32)
    (h : @Cert.Pre_routed.fn routedFacts Ideal _ xs be n g u d = fun _ => 1#1) :
    (∀ i : Cert.Pre_routed.S272.Idx, 0 ≤ (be i).toInt ∧ (be i).toInt < 16)
      ∧ ∀ i : Cert.Pre_routed.S69632x2048.Idx, (((i 0).val / 256 : ℕ) : ℤ) < (n (ix1 0)).toInt ∨ xs i = 0 := by
  have h0 := congrFun h (fun a => a.elim0)
  obtain ⟨ha, hb⟩ := IntOp.andi_eq_one.1 h0
  constructor
  · intro i
    exact range_of_bit _ (Host.reduce_andi_all _ _ routedFacts.reducesTo_S272_S_d0 routedFacts.h_S_ _ ha i)
  · intro i
    have hi0 : (i 0).val < 69632 := (i 0).isLt
    have hi1 : (i 1).val < 2048 := (i 1).isLt
    rcases or_bits _ _ (Host.reduce_andi_all _ _ routedFacts.reducesTo_S69632x2048_S_d0_1 routedFacts.h_S_ _ hb i) with hl | hr
    · left
      have e1 : shapeCast Cert.Pre_routed.S69632x2048 (iotaInDim Cert.Pre_routed.S272x256x2048 32 0) routedFacts.shapeCasts_S272x256x2048_S69632x2048 i
          = BitVec.ofNat 32 ((i 0).val / 256) :=
        shapeCast_apply _ _ i (ix3 ⟨(i 0).val / 256, by omega⟩ ⟨(i 0).val % 256, by omega⟩ ⟨(i 1).val, hi1⟩) (by
          rewrite [Shape.rowMajor_val_three, Shape.rowMajor_val_two]
          show ((i 0).val / 256 * 256 + (i 0).val % 256) * 2048 + (i 1).val = (i 0).val * 2048 + (i 1).val
          omega)
      have e2 : ∀ j : Cert.Pre_routed.S_.Idx, shapeCast Cert.Pre_routed.S_ n routedFacts.shapeCasts_S1_S_ j = n (ix1 0) := fun j => by
        unfold shapeCast
        exact congrArg n (one_index _ _)
      change IntOp.cmpi .slt (shapeCast Cert.Pre_routed.S69632x2048 (iotaInDim Cert.Pre_routed.S272x256x2048 32 0)
        routedFacts.shapeCasts_S272x256x2048_S69632x2048 i) (shapeCast Cert.Pre_routed.S_ n routedFacts.shapeCasts_S1_S_ _) = 1#1 at hl
      rw [e1, e2, cmpi_slt_eq, ofBool_decide_eq_one_iff, block_int _ (by omega)] at hl
      exact hl
    · right
      exact zero_of_bit _ hr

end Cert.ExpertsPre

end
-- ==== Proof.ExpertsInside.lean ====
/-
  Under the precondition every block the experts' index maps name lies inside the weights.
-/
module

public import proofs.«01_k».proof.Proof.ExpertsFrame
public import proofs.«01_k».proof.Proof.ExpertsPre

@[expose] public section

set_option maxRecDepth 16384

noncomputable section

namespace Cert.ExpertsIdeal.ExpertsInside

open Cert.ExpertsIdeal Cert.ExpertsIdeal.Gen Cert.ExpertsIdeal.ExpertsFrame
open Idealize.ShloMosaic Idealize.ShloMosaic.TcCoe

variable {F : FTy → Type} [FloatOps F]

/-- The table's place a point reads. -/
theorem place (i : grid0.Coords) : k0_off1 i 0 = (i 0).val := by
  have h : ∀ a : Fin 272, (Scalar.indexCast (BitVec.ofNat 32 a.val) : Index).toNat = a.val := by decide +kernel
  exact h (i 0)

/-- The expert of a point's block, by its number. -/
theorem expert_of (pf : pre0.Contents (Elt F)) (i : grid0.Coords) :
    cc0_transform_1 k0_off1_inb numel1_S1 pf i 0 = (pf 0 (ix1 (i 0)) : BitVec 32).toNat := by
  show (pf 0 _ : BitVec 32).toNat = _
  refine congrArg (fun j : S272.Idx => (pf 0 j : BitVec 32).toNat) ?_
  funext a
  match a with
  | ⟨0, _⟩ =>
    refine Fin.ext ?_
    show k0_off1 i 0 + 1 * 0 = (i 0).val
    rw [place]; omega

variable (m : (ℓ : Loc nD τ sig) → Buf (Elt F) ℓ)

/-- The tables' experts are among the sixteen. -/
abbrev Known : Prop := ∀ i : S272.Idx, 0 ≤ (tables m 0 i : BitVec 32).toInt ∧ (tables m 0 i : BitVec 32).toInt < 16

theorem inside (h : Known m) : Inside m := by
  have b : ∀ i : grid0.Coords, cc0_transform_1 k0_off1_inb numel1_S1 (tables m) i 0 < 16 := fun i => by
    rw [expert_of]
    exact (Cert.ExpertsPre.nat_of_range _ (h _)).1
  refine ⟨fun i => ⟨fun a => ?_, Or.inl rfl⟩, fun i => ⟨fun a => ?_, Or.inl rfl⟩, fun i => ⟨fun a => ?_, Or.inl rfl⟩⟩
  · match a with
    | ⟨0, _⟩ => show (cc0_transform_1 k0_off1_inb numel1_S1 (tables m) i 0 + 1) * 1 ≤ 16; have := b i; omega
    | ⟨1, _⟩ => exact (by decide : (0 + 1) * 2048 ≤ 2048)
    | ⟨2, _⟩ => exact (by decide : (0 + 1) * 1024 ≤ 1024)
  · match a with
    | ⟨0, _⟩ => show (cc0_transform_1 k0_off1_inb numel1_S1 (tables m) i 0 + 1) * 1 ≤ 16; have := b i; omega
    | ⟨1, _⟩ => exact (by decide : (0 + 1) * 2048 ≤ 2048)
    | ⟨2, _⟩ => exact (by decide : (0 + 1) * 1024 ≤ 1024)
  · match a with
    | ⟨0, _⟩ => show (cc0_transform_1 k0_off1_inb numel1_S1 (tables m) i 0 + 1) * 1 ≤ 16; have := b i; omega
    | ⟨1, _⟩ => exact (by decide : (0 + 1) * 1024 ≤ 1024)
    | ⟨2, _⟩ => exact (by decide : (0 + 1) * 2048 ≤ 2048)

end Cert.ExpertsIdeal.ExpertsInside

end
-- ==== Proof.ExpertsValue.lean ====
/-
  The experts' kernel over the extended reals: what the kernel's result array and the reference's hold at a row and a lane.
-/
module

public import proofs.«01_k».proof.Proof.ExpertsInside
public import proofs.«01_k».proof.Proof.Gen.ExpertsReferenceIdeal.Read
public import proofs.«01_k».proof.Proof.Arrays
public import Idealize.ShloMosaic.Lib.StableHlo.ReadAt

@[expose] public section

set_option maxRecDepth 16384

noncomputable section

namespace Cert.ExpertsIdeal.ExpertsValue

open Cert.ExpertsIdeal Cert.ExpertsIdeal.Gen Cert.ExpertsIdeal.ExpertsFrame Cert.ExpertsIdeal.ExpertsInside Cert.Arrays
open Idealize.ShloMosaic Idealize.ShloMosaic.TcCoe Idealize.SL.Sem
open Idealize.ShloMosaic.Pipeline (Dat)

/-- Row `n` of the slots times lane `f` of expert `e`'s matrix. -/
def hidden (X : S69632x2048.Idx → EReal) (W : S16x2048x1024.Idx → EReal) (n e f : ℕ) : EReal :=
  ∑ k : Fin 2048, at2 X n k.val * at3 W e k.val f

/-- Row `n`, lane `l` of expert `e`'s output: its gated middle lanes times its last matrix. -/
def expertAt (X : S69632x2048.Idx → EReal) (G U : S16x2048x1024.Idx → EReal) (D : S16x1024x2048.Idx → EReal) (n e l : ℕ) : EReal :=
  ∑ f : Fin 1024, ((hidden X G n e f.val * Ideal.logistic (hidden X G n e f.val)) * hidden X U n e f.val) * at3 D e f.val l

/-- The expert of block `b`. -/
def expertNo (be : S272.Idx → BitVec 32) (b : ℕ) : ℕ := if h : b < 272 then (be (ix1 ⟨b, h⟩)).toNat else 0

theorem expertNo_of (be : S272.Idx → BitVec 32) (i : S272.Idx) (b : ℕ) (h : (i 0).val = b) : (be i).toNat = expertNo be b := by
  subst h
  refine Eq.trans ?_ (dif_pos (i 0).isLt).symm
  refine congrArg (fun j : S272.Idx => (be j).toNat) ?_
  funext x
  match x with
  | ⟨0, _⟩ => rfl

/-- Row `n`, lane `l` of the result: the output of the expert of the row's block. -/
def outAt (X : S69632x2048.Idx → EReal) (be : S272.Idx → BitVec 32) (G U : S16x2048x1024.Idx → EReal) (D : S16x1024x2048.Idx → EReal)
    (n l : ℕ) : EReal := expertAt X G U D n (expertNo be (n / 256)) l

/-- A row of zeros comes out as zeros. -/
theorem expertAt_zero (X : S69632x2048.Idx → EReal) (G U : S16x2048x1024.Idx → EReal) (D : S16x1024x2048.Idx → EReal) (n e l : ℕ)
    (h : ∀ k : Fin 2048, at2 X n k.val = 0) : expertAt X G U D n e l = 0 := by
  have hh : ∀ f, hidden X G n e f = 0 := fun f => Finset.sum_eq_zero fun k _ => by rw [h k, zero_mul]
  unfold expertAt
  exact Finset.sum_eq_zero fun f _ => by rw [hh, zero_mul, zero_mul, zero_mul]

theorem pay_at (x : Vec Ideal S256x2048 .f32) (g u : Vec Ideal S1x2048x1024 .f32) (d : Vec Ideal S1x1024x2048 .f32) (r : Fin 256) (l : Fin 2048) :
    k0_pay1 x g u d (ix2 r l) = ∑ f : Fin 1024,
      (((∑ k : Fin 2048, x (ix2 r k) * g (ix3 0 k f)) * Ideal.logistic (∑ k : Fin 2048, x (ix2 r k) * g (ix3 0 k f)))
        * (∑ k : Fin 2048, x (ix2 r k) * u (ix3 0 k f))) * d (ix3 0 f l) := by
  pointwise [k0_pay1]

theorem pay_zero (i : S256x2048.Idx) : k0_pay2 (F := Ideal) i = 0 := by
  show Ideal.ofBits .f32 0x00000000#32 = 0
  simp [Ideal.ofBits, Ideal.ieee]

theorem row_word (i : grid0.Coords) : cc0_transform_0 i 0 = (i 0).val := by
  have h : ∀ a : Fin 272, (BitVec.ofNat 32 a.val).toNat = a.val := by decide +kernel
  exact h (i 0)

section
variable (m : (ℓ : Loc nD τ sig) → Buf (Elt Ideal) ℓ)

/-- The word the body compares with is the table's. -/
theorem used_word (c : Dev nD) : usedWord c (tables m 1) = (tables m 1 (ix1 0) : BitVec 32) :=
  congrArg (fun j : S1.Idx => (tables m 1 j : BitVec 32)) (Cert.ExpertsPre.one_index _ _)

/-- The expert of a point's block. -/
theorem expert_word (i : grid0.Coords) :
    cc0_transform_1 k0_off1_inb numel1_S1 (tables m) i 0 = expertNo (tables m 0) (i 0).val := by
  rw [expert_of]
  exact expertNo_of _ _ _ rfl

theorem block0 (hO : Inside m) (c : Dev nD) (t : Fin (cfgM m hO).N) (r : Fin 256) (k : Fin 2048) :
    (blockOf m hO c 0 t : Vec Ideal S256x2048 .f32) (ix2 r k) = at2 (m ((c : Thread nD τ).loc main_arg0)) ((grid0.coords t 0).val * 256 + r.val) k.val := by
  unfold blockOf
  show V m c main_arg0 _ = _
  refine at2_of _ _ _ _ ?_ ?_
  · show cc0_transform_0 (grid0.coords t) 0 * 256 + 1 * r.val = _
    rw [row_word]; omega
  · show 0 * 2048 + 1 * k.val = _
    omega

theorem block1 (hO : Inside m) (c : Dev nD) (t : Fin (cfgM m hO).N) (k : Fin 2048) (f : Fin 1024) :
    (blockOf m hO c 1 t : Vec Ideal S1x2048x1024 .f32) (ix3 0 k f)
      = at3 (m ((c : Thread nD τ).loc main_arg3)) (expertNo (tables m 0) (grid0.coords t 0).val) k.val f.val := by
  unfold blockOf
  show V m c main_arg3 _ = _
  refine at3_of _ _ _ _ _ ?_ ?_ ?_
  · show cc0_transform_1 k0_off1_inb numel1_S1 (tables m) (grid0.coords t) 0 * 1 + 1 * 0 = _
    rw [expert_word]; omega
  · show 0 * 2048 + 1 * k.val = _
    omega
  · show 0 * 1024 + 1 * f.val = _
    omega

theorem block2 (hO : Inside m) (c : Dev nD) (t : Fin (cfgM m hO).N) (k : Fin 2048) (f : Fin 1024) :
    (blockOf m hO c 2 t : Vec Ideal S1x2048x1024 .f32) (ix3 0 k f)
      = at3 (m ((c : Thread nD τ).loc main_arg4)) (expertNo (tables m 0) (grid0.coords t 0).val) k.val f.val := by
  unfold blockOf
  show V m c main_arg4 _ = _
  refine at3_of _ _ _ _ _ ?_ ?_ ?_
  · show cc0_transform_1 k0_off1_inb numel1_S1 (tables m) (grid0.coords t) 0 * 1 + 1 * 0 = _
    rw [expert_word]; omega
  · show 0 * 2048 + 1 * k.val = _
    omega
  · show 0 * 1024 + 1 * f.val = _
    omega

theorem block3 (hO : Inside m) (c : Dev nD) (t : Fin (cfgM m hO).N) (f : Fin 1024) (l : Fin 2048) :
    (blockOf m hO c 3 t : Vec Ideal S1x1024x2048 .f32) (ix3 0 f l)
      = at3 (m ((c : Thread nD τ).loc main_arg5)) (expertNo (tables m 0) (grid0.coords t 0).val) f.val l.val := by
  unfold blockOf
  show V m c main_arg5 _ = _
  refine at3_of _ _ _ _ _ ?_ ?_ ?_
  · show cc0_transform_1 k0_off1_inb numel1_S1 (tables m) (grid0.coords t) 0 * 1 + 1 * 0 = _
    rw [expert_word]; omega
  · show 0 * 1024 + 1 * f.val = _
    omega
  · show 0 * 2048 + 1 * l.val = _
    omega

/-- What the result array holds. -/
def result (c : Dev nD) : Buf (Elt Ideal) ((c : Thread nD τ).loc main_v0) := fun (i : S69632x2048.Idx) =>
  outAt (m ((c : Thread nD τ).loc main_arg0)) (tables m 0) (m ((c : Thread nD τ).loc main_arg3))
    (m ((c : Thread nD τ).loc main_arg4)) (m ((c : Thread nD τ).loc main_arg5)) (i 0).val (i 1).val

/-- A slot past the blocks in use holds zeros. -/
abbrev Empty (c : Dev nD) : Prop := ∀ i : S69632x2048.Idx,
  (((i 0).val / 256 : ℕ) : ℤ) < (tables m 1 (ix1 0) : BitVec 32).toInt ∨ (m ((c : Thread nD τ).loc main_arg0) : S69632x2048.Idx → EReal) i = (0 : EReal)

/-- What the body leaves at a point, by row and lane. -/
theorem leaves_at (hO : Inside m) (c : Dev nD) (hE : Empty m c) (t : Fin (cfgM m hO).N) (r : Fin 256) (l : Fin 2048) :
    leaves m hO c t (ix2 r l) = outAt (m ((c : Thread nD τ).loc main_arg0)) (tables m 0) (m ((c : Thread nD τ).loc main_arg3))
      (m ((c : Thread nD τ).loc main_arg4)) (m ((c : Thread nD τ).loc main_arg5)) ((grid0.coords t 0).val * 256 + r.val) l.val := by
  have hb : (grid0.coords t 0).val < 272 := (grid0.coords t 0).isLt
  have hr := r.isLt
  have hd : ((grid0.coords t 0).val * 256 + r.val) / 256 = (grid0.coords t 0).val := by omega
  unfold leaves blockOut outAt
  rw [used_word, hd]
  by_cases h : ((grid0.coords t 0).val : ℤ) < (tables m 1 (ix1 0) : BitVec 32).toInt
  · rw [if_pos ((used_iff _ _).2 h)]
    refine (pay_at _ _ _ _ r l).trans ?_
    simp only [block0, block1, block2, block3]
    rfl
  · rw [if_neg fun h1 => h ((used_iff _ _).1 h1)]
    refine (pay_zero _).trans (expertAt_zero _ _ _ _ _ _ _ fun k => ?_).symm
    have hk := k.isLt
    rcases hE (ix2 ⟨(grid0.coords t 0).val * 256 + r.val, by omega⟩ ⟨k.val, hk⟩) with hl | hz
    · refine absurd ?_ h
      have hl' : ((((grid0.coords t 0).val * 256 + r.val) / 256 : ℕ) : ℤ) < (tables m 1 (ix1 0) : BitVec 32).toInt := hl
      rw [hd] at hl'
      exact hl'
    · exact (at2_of (m ((c : Thread nD τ).loc main_arg0)) (ix2 ⟨(grid0.coords t 0).val * 256 + r.val, by omega⟩ ⟨k.val, hk⟩) _ _ rfl rfl).symm.trans hz

theorem result_of (c : Dev nD) (i : S69632x2048.Idx) (n l : ℕ) (h0 : (i 0).val = n) (h1 : (i 1).val = l) :
    result m c i = outAt (m ((c : Thread nD τ).loc main_arg0)) (tables m 0) (m ((c : Thread nD τ).loc main_arg3))
      (m ((c : Thread nD τ).loc main_arg4)) (m ((c : Thread nD τ).loc main_arg5)) n l := by
  subst h0 h1
  rfl

/-- What point `t` writes back is what the body leaves there. -/
theorem flushed_at (hO : Inside m) (c : Dev nD) (t : Fin (cfgM m hO).N) (r : Fin 256) (l : Fin 2048) :
    (dats m hO 0 c).flushed 4 t (ix2 r l : S256x2048.Idx) = leaves m hO c t (ix2 r l) := by
  refine (congrFun (congrArg (((cfgM m hO).win 4).cut ((cfgM m hO).grid.coords t)) (after4 m hO c t)) (ix2 r l : S256x2048.Idx)).trans ?_
  refine congrArg (leaves m hO c t) ?_
  funext a
  match a with
  | ⟨0, _⟩ => rfl
  | ⟨1, _⟩ => rfl

/-- What point `t` writes back is its block of `result`. -/
theorem flushed_eq (hO : Inside m) (c : Dev nD) (hE : Empty m c) (t : Fin (cfgM m hO).N) :
    (dats m hO 0 c).flushed 4 t = (((cfgM m hO).win 4).blk t).view.read (Elt Ideal) (result m c) := by
  funext (j : S256x2048.Idx)
  have h0 : (j 0).val < 256 := (j 0).isLt
  have h1 : (j 1).val < 2048 := (j 1).isLt
  obtain ⟨r, l, rfl⟩ : ∃ (r : Fin 256) (l : Fin 2048), j = ix2 r l := ⟨⟨(j 0).val, h0⟩, ⟨(j 1).val, h1⟩, by
    funext a
    match a with
    | ⟨0, _⟩ => rfl
    | ⟨1, _⟩ => rfl⟩
  refine (flushed_at m hO c t r l).trans ((leaves_at m hO c hE t r l).trans ?_)
  refine Eq.trans ?_ (View.read_apply _ _).symm
  refine (result_of m c _ _ _ ?_ ?_).symm
  · show cc0_transform_0 (grid0.coords t) 0 * 256 + 1 * r.val = _
    rw [row_word]; omega
  · show 0 * 2048 + 1 * l.val = _
    omega

/-- Every row lies in one point's block. -/
theorem covered (hO : Inside m) (i : main_v0.ty.Idx) :
    ∃ t : Fin (cfgM m hO).N, ((cfgM m hO).win 4).flush t = true ∧ i ∈ (((cfgM m hO).win 4).blk t).view.set := by
  have hi0 : (i 0).val < 69632 := (i 0).isLt
  have hi1 : (i 1).val < 2048 := (i 1).isLt
  obtain ⟨t, ht⟩ : ∃ t : Fin (cfgM m hO).N, (grid0.coords t 0).val = (i 0).val / 256 := by
    refine ⟨⟨(i 0).val / 256, ?_⟩, ?_⟩
    · show _ < 272
      omega
    · show (i 0).val / 256 / 1 % 272 = _
      omega
  refine ⟨t, flush4 m hO t, ?_⟩
  refine (Finset.ext_iff.1 (View.set_slice_whole main_v0 (((cfgM m hO).win 4).rect t)) i).2 ?_
  refine Rect.mem_set_unit.2 ?_
  intro a
  match a with
  | ⟨0, _⟩ =>
    show cc0_transform_0 (grid0.coords t) 0 * 256 ≤ (i 0 : Nat) ∧ (i 0 : Nat) < cc0_transform_0 (grid0.coords t) 0 * 256 + 256
    rw [row_word]; omega
  | ⟨1, _⟩ =>
    show 0 * 2048 ≤ (i 1 : Nat) ∧ (i 1 : Nat) < 0 * 2048 + 2048
    omega

/-- So the array ends holding `result`. -/
theorem final (hO : Inside m) (c : Dev nD) (hE : Empty m c) : (dats m hO 0 c).arrAt 4 (cfgM m hO).N = result m c :=
  (dats m hO 0 c).arrAt_eq_of_cover 4 (result m c) (fun t _ => flushed_eq m hO c hE t) fun i => covered m hO i

end

section
open Cert.ExpertsReferenceIdeal Cert.ExpertsReferenceIdeal.Read

/-- A stack taken at one expert per block, read at a block: that expert's matrix. -/
theorem gather_wide (W : S16x2048x1024.Idx → EReal) (idx : S272x1.Idx → BitVec 32) (j : S272x2048x1024.Idx) (e : ℕ) (he : e < 16)
    (h : ∀ i : S272x1.Idx, (i 0).val = (j 0).val → (idx i).toInt.toNat = e) :
    Host.gather gather_S16x2048x1024_S272x1_S272x2048x1024_12_0_n_n_0_1_120481024 W idx j = at3 W e (j 1).val (j 2).val := by
  unfold Host.gather
  refine at3_of _ _ _ _ _ ?_ ?_ ?_
  · show GatherDims.start _ j idx 0 + GatherDims.batchCoord _ j 0 + GatherDims.offCoord _ j 0 = e
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S16x2048x1024_S272x1_S272x2048x1024_12_0_n_n_0_1_120481024.startIndexMap from List.mem_singleton.mpr rfl)]
    rw [h _ rfl]
    show min e (16 - 1) = e
    omega
  · show GatherDims.start _ j idx 1 + GatherDims.batchCoord _ j 1 + GatherDims.offCoord _ j 1 = (j 1).val
    rw [GatherDims.batchCoord_eq_zero _ _ _ List.not_mem_nil]
    unfold GatherDims.start
    rw [dif_neg (show (1 : Fin 3) ∉ gather_S16x2048x1024_S272x1_S272x2048x1024_12_0_n_n_0_1_120481024.startIndexMap from by decide)]
    show 0 + 0 + (j 1).val = _
    omega
  · show GatherDims.start _ j idx 2 + GatherDims.batchCoord _ j 2 + GatherDims.offCoord _ j 2 = (j 2).val
    rw [GatherDims.batchCoord_eq_zero _ _ _ List.not_mem_nil]
    unfold GatherDims.start
    rw [dif_neg (show (2 : Fin 3) ∉ gather_S16x2048x1024_S272x1_S272x2048x1024_12_0_n_n_0_1_120481024.startIndexMap from by decide)]
    show 0 + 0 + (j 2).val = _
    omega

theorem gather_tall (W : S16x1024x2048.Idx → EReal) (idx : S272x1.Idx → BitVec 32) (j : S272x1024x2048.Idx) (e : ℕ) (he : e < 16)
    (h : ∀ i : S272x1.Idx, (i 0).val = (j 0).val → (idx i).toInt.toNat = e) :
    Host.gather gather_S16x1024x2048_S272x1_S272x1024x2048_12_0_n_n_0_1_110242048 W idx j = at3 W e (j 1).val (j 2).val := by
  unfold Host.gather
  refine at3_of _ _ _ _ _ ?_ ?_ ?_
  · show GatherDims.start _ j idx 0 + GatherDims.batchCoord _ j 0 + GatherDims.offCoord _ j 0 = e
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S16x1024x2048_S272x1_S272x1024x2048_12_0_n_n_0_1_110242048.startIndexMap from List.mem_singleton.mpr rfl)]
    rw [h _ rfl]
    show min e (16 - 1) = e
    omega
  · show GatherDims.start _ j idx 1 + GatherDims.batchCoord _ j 1 + GatherDims.offCoord _ j 1 = (j 1).val
    rw [GatherDims.batchCoord_eq_zero _ _ _ List.not_mem_nil]
    unfold GatherDims.start
    rw [dif_neg (show (1 : Fin 3) ∉ gather_S16x1024x2048_S272x1_S272x1024x2048_12_0_n_n_0_1_110242048.startIndexMap from by decide)]
    show 0 + 0 + (j 1).val = _
    omega
  · show GatherDims.start _ j idx 2 + GatherDims.batchCoord _ j 2 + GatherDims.offCoord _ j 2 = (j 2).val
    rw [GatherDims.batchCoord_eq_zero _ _ _ List.not_mem_nil]
    unfold GatherDims.start
    rw [dif_neg (show (2 : Fin 3) ∉ gather_S16x1024x2048_S272x1_S272x1024x2048_12_0_n_n_0_1_110242048.startIndexMap from by decide)]
    show 0 + 0 + (j 2).val = _
    omega

/-- A known expert's number is kept where a negative one would be counted from the end. -/
theorem kept (e : BitVec 32) (h : 0 ≤ e.toInt ∧ e.toInt < 16) :
    Scalar.select (IntOp.cmpi .slt e 0#32) (IntOp.addi e 16#32) e = e := by
  have : ¬ IntOp.cmpi .slt e 0#32 = 1#1 := by
    rw [WordCmp.cmpi_slt_eq, WordCmp.ofBool_decide_eq_one_iff]
    exact not_lt.2 h.1
  unfold Scalar.select
  exact if_neg this

section
variable (X : Vec Ideal S69632x2048 .f32) (be : S272.Idx → BitVec 32) (G U : Vec Ideal S16x2048x1024 .f32) (D : Vec Ideal S16x1024x2048 .f32)
  (hk : ∀ i : S272.Idx, 0 ≤ (be i).toInt ∧ (be i).toInt < 16)
include hk

theorem expertNo_lt (b : ℕ) : expertNo be b < 16 := by
  unfold expertNo
  split
  · exact (Cert.ExpertsPre.nat_of_range _ (hk _)).1
  · omega

theorem start_gate (i : S272x1.Idx) (b : ℕ) (h : (i 0).val = b) : (val_main_v6 (F := Ideal) be i : BitVec 32).toInt.toNat = expertNo be b := by
  rw [val_main_v6_apply, val_main_v5_apply, val_main_v2_apply, val_main_v4_apply, val_main_v1_apply, val_main_v3_apply, val_main_c_apply, val_main_c_0_apply,
    kept _ (hk _), (Cert.ExpertsPre.nat_of_range _ (hk _)).2, Int.toNat_natCast]
  exact expertNo_of _ _ _ h

theorem start_up (i : S272x1.Idx) (b : ℕ) (h : (i 0).val = b) : (val_main_v14 (F := Ideal) be i : BitVec 32).toInt.toNat = expertNo be b := by
  rw [val_main_v14_apply, val_main_v13_apply, val_main_v10_apply, val_main_v12_apply, val_main_v9_apply, val_main_v11_apply, val_main_c_1_apply, val_main_c_2_apply,
    kept _ (hk _), (Cert.ExpertsPre.nat_of_range _ (hk _)).2, Int.toNat_natCast]
  exact expertNo_of _ _ _ h

theorem start_down (i : S272x1.Idx) (b : ℕ) (h : (i 0).val = b) : (val_main_v24 (F := Ideal) be i : BitVec 32).toInt.toNat = expertNo be b := by
  rw [val_main_v24_apply, val_main_v23_apply, val_main_v20_apply, val_main_v22_apply, val_main_v19_apply, val_main_v21_apply, val_main_c_3_apply, val_main_c_4_apply,
    kept _ (hk _), (Cert.ExpertsPre.nat_of_range _ (hk _)).2, Int.toNat_natCast]
  exact expertNo_of _ _ _ h

theorem gate_at (i : S272x256x1024.Idx) :
    val_main_v8 (F := Ideal) X be G i = hidden X G ((i 0).val * 256 + (i 1).val) (expertNo be (i 0).val) (i 2).val := by
  have h1 : (i 1).val < 256 := (i 1).isLt
  rw [val_main_v8_apply]
  unfold hidden
  refine Finset.sum_congr rfl fun k _ => congrArg₂ _ ?_ ?_
  · have hk := k.isLt
    rw [val_main_v0_apply]
    refine at2_of _ _ _ _ ?_ ?_
    · dsimp; omega
    · dsimp; omega
  · unfold val_main_v7
    exact gather_wide G _ _ _ (expertNo_lt be hk _) fun i' h => start_gate be hk i' _ h

theorem up_at (i : S272x256x1024.Idx) :
    val_main_v16 (F := Ideal) X be U i = hidden X U ((i 0).val * 256 + (i 1).val) (expertNo be (i 0).val) (i 2).val := by
  have h1 : (i 1).val < 256 := (i 1).isLt
  rw [val_main_v16_apply]
  unfold hidden
  refine Finset.sum_congr rfl fun k _ => congrArg₂ _ ?_ ?_
  · have hk := k.isLt
    rw [val_main_v0_apply]
    refine at2_of _ _ _ _ ?_ ?_
    · dsimp; omega
    · dsimp; omega
  · unfold val_main_v15
    exact gather_wide U _ _ _ (expertNo_lt be hk _) fun i' h => start_up be hk i' _ h

omit hk in
/-- One over one plus the exponential of the negation is the logistic function. -/
theorem logistic_at (i : S272x256x1024.Idx) :
    val_main_call0_v5 (F := Ideal) X be G i = Ideal.logistic (val_main_v8 (F := Ideal) X be G i) := by
  have one : Ideal.ofBits .f32 0x3F800000#32 = 1 := by
    simp [Ideal.ofBits, Ideal.ieee]
    norm_cast
    norm_num
  rw [val_main_call0_v5_apply, val_main_call0_v4_apply, val_main_call0_cst_0_apply, val_main_call0_v3_apply, val_main_call0_v2_apply,
    val_main_call0_cst_apply, val_main_call0_v1_apply, val_main_call0_v0_apply]
  generalize val_main_v8 (F := Ideal) X be G i = x
  show Ideal.div (Ideal.ofBits .f32 0x3F800000#32) (Ideal.ofBits .f32 0x3F800000#32 + Ideal.exp (-x)) = Ideal.logistic x
  rw [one]
  rfl

/-- The reference's result at an index is the kernel's value there. -/
theorem ref_at (i : S69632x2048.Idx) : val_main_v27 (F := Ideal) X be G U D i = outAt X be G U D (i 0).val (i 1).val := by
  have hi0 : (i 0).val < 69632 := (i 0).isLt
  have hi1 : (i 1).val < 2048 := (i 1).isLt
  have a0 : ((i 0).val * 2048 + (i 1).val) / 524288 = (i 0).val / 256 := by omega
  have a1 : (i 0).val / 256 * 256 + ((i 0).val * 2048 + (i 1).val) / 2048 % 256 = (i 0).val := by omega
  have a2 : ((i 0).val * 2048 + (i 1).val) % 2048 = (i 1).val := by omega
  rw [val_main_v27_apply, val_main_v26_apply]
  unfold outAt expertAt
  refine Finset.sum_congr rfl fun f _ => congrArg₂ _ ?_ ?_
  · rw [val_main_v18_apply, val_main_v17_apply, logistic_at, gate_at X be G hk, up_at X be U hk]
    dsimp
    rw [a0, a1]
  · unfold val_main_v25
    refine (gather_tall D _ _ _ (expertNo_lt be hk _) fun i' h => start_down be hk i' _ h).trans ?_
    dsimp
    rw [a0, a2]

end

end

end Cert.ExpertsIdeal.ExpertsValue

end
-- ==== Proof.ExpertsWords.lean ====
/-
  The kernel over the machine's words and its idealization have one text, so the run proved for floats of any kind
  is a run of both.
-/
module

public import proofs.«01_k».proof.Proof.Gen.Experts
public import proofs.«01_k».proof.Proof.ExpertsInside
public import proofs.«01_k».proof.Defs

@[expose] public section

set_option maxRecDepth 16384

noncomputable section

namespace Cert.ExpertsWords

open Idealize.ShloMosaic Idealize.ShloMosaic.TcCoe Idealize.SL.Sem

set_option maxHeartbeats 2000000 in
/-- The bodies are one. -/
theorem body_same : (Cert.Experts.cc0_moe_experts (F := Bits)) = Cert.ExpertsIdeal.cc0_moe_experts (F := Bits) := rfl

set_option maxHeartbeats 2000000 in
/-- The conditions on the tables are one. -/
theorem ok_same : (Cert.Experts.ok0 (F := Bits)) = Cert.ExpertsIdeal.ok0 (F := Bits) := rfl

set_option maxHeartbeats 2000000 in
/-- The calls are one. -/
theorem cfg_same : (Cert.Experts.pcfg0 (F := Bits)) = Cert.ExpertsIdeal.pcfg0 (F := Bits) := rfl

set_option maxHeartbeats 2000000 in
/-- The programs are one. -/
theorem main_same : (Cert.Experts.main (F := Bits)) = Cert.ExpertsIdeal.main (F := Bits) := rfl

set_option maxHeartbeats 2000000 in
/-- The tables of bodies are one. -/
theorem kernels_same : (Cert.Experts.defs₀ (F := Bits)) = Cert.ExpertsIdeal.defs₀ (F := Bits) := by
  unfold Cert.Experts.defs₀ Cert.ExpertsIdeal.defs₀
  refine congrArg Defs.onTc ?_
  funext l a
  match l, a with
  | ⟨0, _⟩, (t, s) => rfl

set_option maxHeartbeats 2000000 in
/-- So are the definitions the programs run under. -/
theorem defs_same : (Cert.Experts.defs (F := Bits)) = Cert.ExpertsIdeal.defs (F := Bits) := by
  unfold Cert.Experts.defs Cert.ExpertsIdeal.defs
  rw [kernels_same]
  rfl

set_option maxHeartbeats 2000000 in
/-- The run of the experts' kernel, stated of the kernel over the machine's words. -/
theorem run_words (m : (ℓ : Loc Cert.ExpertsIdeal.nD Cert.ExpertsIdeal.τ Cert.ExpertsIdeal.sig) → Buf (Elt Bits) ℓ)
    (g : Dev Cert.ExpertsIdeal.nD → PrngReg) (hK : Cert.ExpertsIdeal.ExpertsInside.Known m) :
    θ_run (Cert.Experts.defs (F := Bits)) (onTc (τ := Cert.Experts.τ) (Cert.Experts.main (F := Bits))) ⟨m, fun _ => 0, g⟩ (fun r =>
      (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0) := by
  have h := (θ_run (Cert.ExpertsIdeal.defs (F := Bits)) _ _).mono (fun _ h => h.2)
    (Cert.ExpertsIdeal.ExpertsFrame.run_leaves (F := Bits) m g (Cert.ExpertsIdeal.ExpertsInside.inside m hK))
  rw [← defs_same] at h
  exact h

end Cert.ExpertsWords

end
-- ==== Proof.lean ====
module

public import proofs.«01_k».proof.Proof.Gen.InProj.Frame
public import proofs.«01_k».proof.Proof.Gen.InProjIdeal.Frame
public import proofs.«01_k».proof.Proof.Gen.InProjReferenceIdeal.Run
public import proofs.«01_k».proof.Proof.Gen.InProjReferenceIdeal.Read
public import proofs.«01_k».proof.Proof.Gen.InProjIdeal.Value
public import proofs.«01_k».proof.Proof.Gen.OutProj.Frame
public import proofs.«01_k».proof.Proof.Gen.OutProjIdeal.Frame
public import proofs.«01_k».proof.Proof.Gen.OutProjReferenceIdeal.Run
public import proofs.«01_k».proof.Proof.Gen.OutProjReferenceIdeal.Read
public import proofs.«01_k».proof.Proof.Gen.OutProjIdeal.Value
public import proofs.«01_k».proof.Proof.Gen.Modulation.Frame
public import proofs.«01_k».proof.Proof.Gen.ModulationIdeal.Frame
public import proofs.«01_k».proof.Proof.Gen.ModulationReferenceIdeal.Run
public import proofs.«01_k».proof.Proof.Gen.ModulationReferenceIdeal.Read
public import proofs.«01_k».proof.Proof.Gen.ModulationIdeal.Value
public import proofs.«01_k».proof.Proof.Gen.TimeOut.Frame
public import proofs.«01_k».proof.Proof.Gen.TimeOutIdeal.Frame
public import proofs.«01_k».proof.Proof.Gen.TimeOutReferenceIdeal.Run
public import proofs.«01_k».proof.Proof.Gen.TimeOutReferenceIdeal.Read
public import proofs.«01_k».proof.Proof.Gen.TimeOutIdeal.Value
public import proofs.«01_k».proof.Proof.Gen.Experts
public import proofs.«01_k».proof.Proof.Gen.ExpertsIdeal
public import proofs.«01_k».proof.Proof.Gen.ExpertsReferenceIdeal.Run
public import proofs.«01_k».proof.Proof.Gen.ExpertsReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.DiffEq
public import proofs.«01_k».proof.Proof.InProjValue
public import proofs.«01_k».proof.Proof.OutProjValue
public import proofs.«01_k».proof.Proof.ModulationValue
public import proofs.«01_k».proof.Proof.RouteValue
public import proofs.«01_k».proof.Proof.Gen.Route.Frame
public import proofs.«01_k».proof.Proof.Gen.RouteIdeal.Frame
public import proofs.«01_k».proof.Proof.Gen.RouteReferenceIdeal.Run
public import proofs.«01_k».proof.Proof.Gen.RouteReferenceIdeal.Read
public import proofs.«01_k».proof.Proof.Gen.RouteIdeal.Value
public import proofs.«01_k».proof.Proof.TimeOutValue
public import proofs.«01_k».proof.Proof.FinitePre
public import proofs.«01_k».proof.Proof.ExpertsValue
public import proofs.«01_k».proof.Proof.ExpertsWords
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run with the value of the result left out. -/
theorem frame_reference : @Cert.quiescent_ReferenceIdeal Cert.ReferenceIdeal.Gen.facts := fun m g _ =>
  (θ_run Cert.ReferenceIdeal.defs _ _).mono (fun r h => ⟨fun c => (h c).2, sem_eq_zero_of_no_sems (by decide) r.2⟩) (Cert.ReferenceIdeal.Value.run m g)

/-- From the same finite arguments the kernel and the reference end with one array. -/
theorem algebraic : @Cert.algebraic_KernelIdeal_ReferenceIdeal_pre_finite Cert.KernelIdeal.Gen.facts Cert.ReferenceIdeal.Gen.facts Cert.FinitePre.facts :=
  fun m g m' g' hpre hargs => by
    have hfin := fun c => Cert.FinitePre.reals _ _ _ (hpre c)
    refine ⟨fun c => Cert.KernelIdeal.DiffArray.result m c, ?_, ?_⟩
    · exact (θ_run Cert.KernelIdeal.defs _ _).mono (fun r h c => ⟨(h c).1.trans (Cert.KernelIdeal.DiffArray.final m (fun c => (hfin c).1) c), (h c).2⟩)
        (Cert.KernelIdeal.Value.run_blocks m g)
    · refine (θ_run Cert.ReferenceIdeal.defs _ _).mono (fun r h c => ⟨(h c).1.trans ?_, (h c).2⟩) (Cert.ReferenceIdeal.Value.run m' g')
      rw [Cert.ReferenceIdeal.Read.val_main_v92_eq, (hargs c).1, (hargs c).2.1, (hargs c).2.2]
      funext i
      exact Cert.DiffEq.ref_at _ _ _ (hfin c).1 (hfin c).2 i

/-- The frame of the reference of the input projection. -/
theorem frame_in_proj_reference : @Cert.quiescent_InProjReferenceIdeal Cert.InProjReferenceIdeal.Gen.facts := fun m g _ =>
  (θ_run Cert.InProjReferenceIdeal.defs _ _).mono (fun r h => ⟨fun c => (h c).2, sem_eq_zero_of_no_sems (by decide) r.2⟩)
    (Cert.InProjReferenceIdeal.Value.run m g)

/-- From the same arguments the input projection and its reference end with one array. -/
theorem algebraic_in_proj : @Cert.algebraic_InProjIdeal_InProjReferenceIdeal Cert.InProjIdeal.Gen.facts Cert.InProjReferenceIdeal.Gen.facts :=
  fun m g m' g' _ hargs => by
    refine ⟨fun c => Cert.InProjIdeal.InProjValue.result m c, ?_, ?_⟩
    · exact (θ_run Cert.InProjIdeal.defs _ _).mono (fun r h c => ⟨(h c).1.trans (Cert.InProjIdeal.InProjValue.final m c), (h c).2⟩)
        (Cert.InProjIdeal.Value.run_blocks m g)
    · refine (θ_run Cert.InProjReferenceIdeal.defs _ _).mono (fun r h c => ⟨(h c).1.trans ?_, (h c).2⟩) (Cert.InProjReferenceIdeal.Value.run m' g')
      rw [Cert.InProjReferenceIdeal.Read.val_main_v29_eq, (hargs c).1, (hargs c).2.1, (hargs c).2.2.1, (hargs c).2.2.2]
      funext i
      exact Cert.InProjIdeal.InProjValue.ref_at _ _ _ _ i

/-- The frame of the reference of the attention's output projection. -/
theorem frame_out_proj_reference : @Cert.quiescent_OutProjReferenceIdeal Cert.OutProjReferenceIdeal.Gen.facts := fun m g _ =>
  (θ_run Cert.OutProjReferenceIdeal.defs _ _).mono (fun r h => ⟨fun c => (h c).2, sem_eq_zero_of_no_sems (by decide) r.2⟩)
    (Cert.OutProjReferenceIdeal.Value.run m g)

/-- From the same arguments the attention's output projection and its reference end with one array. -/
theorem algebraic_out_proj : @Cert.algebraic_OutProjIdeal_OutProjReferenceIdeal Cert.OutProjIdeal.Gen.facts Cert.OutProjReferenceIdeal.Gen.facts :=
  fun m g m' g' _ hargs => by
    refine ⟨fun c => Cert.OutProjIdeal.OutProjValue.result m c, ?_, ?_⟩
    · exact (θ_run Cert.OutProjIdeal.defs _ _).mono (fun r h c => ⟨(h c).1.trans (Cert.OutProjIdeal.OutProjValue.final m c), (h c).2⟩)
        (Cert.OutProjIdeal.Value.run_blocks m g)
    · refine (θ_run Cert.OutProjReferenceIdeal.defs _ _).mono (fun r h c => ⟨(h c).1.trans ?_, (h c).2⟩) (Cert.OutProjReferenceIdeal.Value.run m' g')
      rw [Cert.OutProjReferenceIdeal.Read.val_main_v16_eq, (hargs c).1, (hargs c).2.1, (hargs c).2.2.1, (hargs c).2.2.2.1, (hargs c).2.2.2.2]
      funext i
      exact Cert.OutProjIdeal.OutProjValue.ref_at _ _ _ _ _ i

/-- The frame of the reference of the time mixing's output projection. -/
theorem frame_time_out_reference : @Cert.quiescent_TimeOutReferenceIdeal Cert.TimeOutReferenceIdeal.Gen.facts := fun m g _ =>
  (θ_run Cert.TimeOutReferenceIdeal.defs _ _).mono (fun r h => ⟨fun c => (h c).2, sem_eq_zero_of_no_sems (by decide) r.2⟩)
    (Cert.TimeOutReferenceIdeal.Value.run m g)

/-- From the same arguments the time mixing's output projection and its reference end with one array. -/
theorem algebraic_time_out : @Cert.algebraic_TimeOutIdeal_TimeOutReferenceIdeal Cert.TimeOutIdeal.Gen.facts Cert.TimeOutReferenceIdeal.Gen.facts :=
  fun m g m' g' _ hargs => by
    refine ⟨fun c => Cert.TimeOutIdeal.TimeOutValue.result m c, ?_, ?_⟩
    · exact (θ_run Cert.TimeOutIdeal.defs _ _).mono (fun r h c => ⟨(h c).1.trans (Cert.TimeOutIdeal.TimeOutValue.final m c), (h c).2⟩)
        (Cert.TimeOutIdeal.Value.run_blocks m g)
    · refine (θ_run Cert.TimeOutReferenceIdeal.defs _ _).mono (fun r h c => ⟨(h c).1.trans ?_, (h c).2⟩) (Cert.TimeOutReferenceIdeal.Value.run m' g')
      rw [Cert.TimeOutReferenceIdeal.Read.val_main_v14_eq, (hargs c).1, (hargs c).2.1, (hargs c).2.2.1, (hargs c).2.2.2]
      funext i
      exact Cert.TimeOutIdeal.TimeOutValue.ref_at _ _ _ _ i

/-- The frame of the experts' kernel over the machine's words. -/
theorem frame_experts : @Cert.quiescent_Experts Cert.Experts.Gen.facts Cert.ExpertsPre.knownFacts := fun m g hpre =>
  Cert.ExpertsWords.run_words m g fun i => Cert.ExpertsPre.known _ _ _ _ _ _ (hpre 0) i

/-- The frame of the experts' kernel over the extended reals. -/
theorem frame_experts_ideal : @Cert.quiescent_ExpertsIdeal Cert.ExpertsIdeal.Gen.facts Cert.ExpertsPre.knownFacts := fun m g hpre =>
  (θ_run (Cert.ExpertsIdeal.defs (F := Ideal)) _ _).mono (fun _ h => h.2)
    (Cert.ExpertsIdeal.ExpertsFrame.run_leaves m g
      (Cert.ExpertsIdeal.ExpertsInside.inside m fun i => Cert.ExpertsPre.known _ _ _ _ _ _ (hpre 0) i))

/-- The same frame, from the precondition under which the kernel's result is the reference's. -/
theorem frame_experts_routed : @Cert.quiescent_ExpertsIdeal_pre_routed Cert.ExpertsIdeal.Gen.facts Cert.ExpertsPre.routedFacts := fun m g hpre =>
  (θ_run (Cert.ExpertsIdeal.defs (F := Ideal)) _ _).mono (fun _ h => h.2)
    (Cert.ExpertsIdeal.ExpertsFrame.run_leaves m g
      (Cert.ExpertsIdeal.ExpertsInside.inside m (Cert.ExpertsPre.routed _ _ _ _ _ _ (hpre 0)).1))

/-- The frame of the experts' reference. -/
theorem frame_experts_reference : @Cert.quiescent_ExpertsReferenceIdeal Cert.ExpertsReferenceIdeal.Gen.facts := fun m g _ =>
  (θ_run Cert.ExpertsReferenceIdeal.defs _ _).mono (fun r h => ⟨fun c => (h c).2, sem_eq_zero_of_no_sems (by decide) r.2⟩)
    (Cert.ExpertsReferenceIdeal.Value.run m g)

/-- From the same arguments the experts' kernel and its reference end with one array. -/
theorem algebraic_experts : @Cert.algebraic_ExpertsIdeal_ExpertsReferenceIdeal_pre_routed Cert.ExpertsIdeal.Gen.facts
    Cert.ExpertsReferenceIdeal.Gen.facts Cert.ExpertsPre.routedFacts := fun m g m' g' hpre hargs => by
  have hr := fun c => Cert.ExpertsPre.routed _ _ _ _ _ _ (hpre c)
  have hO := Cert.ExpertsIdeal.ExpertsInside.inside m (hr 0).1
  have hE : ∀ c, Cert.ExpertsIdeal.ExpertsValue.Empty m c := fun c => by
    obtain rfl : c = 0 := Subsingleton.elim _ _
    exact (hr 0).2
  refine ⟨fun c => Cert.ExpertsIdeal.ExpertsValue.result m c, ?_, ?_⟩
  · exact (θ_run Cert.ExpertsIdeal.defs _ _).mono
      (fun r h c => ⟨(h.1 c).trans (Cert.ExpertsIdeal.ExpertsValue.final m hO c (hE c)), h.2.1 c⟩)
      (Cert.ExpertsIdeal.ExpertsFrame.run_leaves m g hO)
  · refine (θ_run Cert.ExpertsReferenceIdeal.defs _ _).mono (fun r h c => ⟨(h c).1.trans ?_, (h c).2⟩) (Cert.ExpertsReferenceIdeal.Value.run m' g')
    obtain rfl : c = 0 := Subsingleton.elim _ _
    rw [Cert.ExpertsReferenceIdeal.Read.val_main_v27_eq, (hargs 0).1, (hargs 0).2.1, (hargs 0).2.2.2.1, (hargs 0).2.2.2.2.1, (hargs 0).2.2.2.2.2]
    funext i
    exact Cert.ExpertsIdeal.ExpertsValue.ref_at _ _ _ _ _ (hr 0).1 i

/-- The frame of the reference of the conditioning's projection. -/
theorem frame_modulation_reference : @Cert.quiescent_ModulationReferenceIdeal Cert.ModulationReferenceIdeal.Gen.facts := fun m g _ =>
  (θ_run Cert.ModulationReferenceIdeal.defs _ _).mono (fun r h => ⟨fun c => (h c).2, sem_eq_zero_of_no_sems (by decide) r.2⟩)
    (Cert.ModulationReferenceIdeal.Value.run m g)

/-- From the same arguments the conditioning's projection and its reference end with one array. -/
theorem algebraic_modulation : @Cert.algebraic_ModulationIdeal_ModulationReferenceIdeal Cert.ModulationIdeal.Gen.facts
    Cert.ModulationReferenceIdeal.Gen.facts :=
  fun m g m' g' _ hargs => by
    refine ⟨fun c => Cert.ModulationIdeal.ModulationValue.result m c, ?_, ?_⟩
    · exact (θ_run Cert.ModulationIdeal.defs _ _).mono (fun r h c => ⟨(h c).1.trans (Cert.ModulationIdeal.ModulationValue.final m c), (h c).2⟩)
        (Cert.ModulationIdeal.Value.run_blocks m g)
    · refine (θ_run Cert.ModulationReferenceIdeal.defs _ _).mono (fun r h c => ⟨(h c).1.trans ?_, (h c).2⟩)
        (Cert.ModulationReferenceIdeal.Value.run m' g')
      rw [Cert.ModulationReferenceIdeal.Read.val_main_v5_eq, (hargs c).1, (hargs c).2.1, (hargs c).2.2]
      funext i
      exact Cert.ModulationIdeal.ModulationValue.ref_at _ _ _ i

/-- The frame of the reference of the router's rows. -/
theorem frame_route_reference : @Cert.quiescent_RouteReferenceIdeal Cert.RouteReferenceIdeal.Gen.facts := fun m g _ =>
  (θ_run Cert.RouteReferenceIdeal.defs _ _).mono (fun r h => ⟨fun c => (h c).2, sem_eq_zero_of_no_sems (by decide) r.2⟩)
    (Cert.RouteReferenceIdeal.Value.run m g)

/-- From the same arguments the router's first result and its reference end with one array. -/
theorem algebraic_route : @Cert.algebraic_RouteIdeal_RouteReferenceIdeal Cert.RouteIdeal.Gen.facts Cert.RouteReferenceIdeal.Gen.facts :=
  fun m g m' g' _ hargs => by
    refine ⟨fun c => Cert.RouteIdeal.RouteValue.result m c, ?_, ?_⟩
    · exact (θ_run Cert.RouteIdeal.defs _ _).mono
        (fun r h c => ⟨(h c).1.trans (Cert.RouteIdeal.RouteValue.final m c), (h c).2.2.2.2.2⟩) (Cert.RouteIdeal.Value.run_blocks m g)
    · refine (θ_run Cert.RouteReferenceIdeal.defs _ _).mono (fun r h c => ⟨(h c).1.trans ?_, (h c).2⟩)
        (Cert.RouteReferenceIdeal.Value.run m' g')
      rw [Cert.RouteReferenceIdeal.Read.val_main_v27_eq, (hargs c).1, (hargs c).2.1, (hargs c).2.2.1]
      funext i
      exact Cert.RouteIdeal.RouteValue.ref_at _ _ _ i

theorem claim : Cert.Claim :=
  ⟨Cert.Kernel.Gen.facts, Cert.KernelIdeal.Gen.facts, Cert.ReferenceIdeal.Gen.facts,
    Cert.InProj.Gen.facts, Cert.InProjIdeal.Gen.facts, Cert.InProjReferenceIdeal.Gen.facts,
    Cert.OutProj.Gen.facts, Cert.OutProjIdeal.Gen.facts, Cert.OutProjReferenceIdeal.Gen.facts,
    Cert.TimeOut.Gen.facts, Cert.TimeOutIdeal.Gen.facts, Cert.TimeOutReferenceIdeal.Gen.facts,
    Cert.Experts.Gen.facts, Cert.ExpertsIdeal.Gen.facts, Cert.ExpertsReferenceIdeal.Gen.facts,
    Cert.Modulation.Gen.facts, Cert.ModulationIdeal.Gen.facts, Cert.ModulationReferenceIdeal.Gen.facts,
    Cert.Route.Gen.facts, Cert.RouteIdeal.Gen.facts, Cert.RouteReferenceIdeal.Gen.facts,
    Cert.FinitePre.facts, Cert.ExpertsPre.knownFacts, Cert.ExpertsPre.routedFacts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.InProj.Gen.frame m g,
    fun m g _ => Cert.InProjIdeal.Gen.frame m g,
    frame_in_proj_reference,
    fun m g _ => Cert.OutProj.Gen.frame m g,
    fun m g _ => Cert.OutProjIdeal.Gen.frame m g,
    frame_out_proj_reference,
    fun m g _ => Cert.TimeOut.Gen.frame m g,
    fun m g _ => Cert.TimeOutIdeal.Gen.frame m g,
    frame_time_out_reference,
    frame_experts,
    frame_experts_ideal,
    frame_experts_routed,
    frame_experts_reference,
    fun m g _ => frame_experts_reference m g trivial,
    fun m g _ => Cert.Modulation.Gen.frame m g,
    fun m g _ => Cert.ModulationIdeal.Gen.frame m g,
    frame_modulation_reference,
    fun m g _ => Cert.Route.Gen.frame m g,
    fun m g _ => Cert.RouteIdeal.Gen.frame m g,
    frame_route_reference,
    IdealRules.named_const.statement Cert.KernelIdeal.κ "mask" .f32 0xF149F2CA#32 ⊥ rfl,
    algebraic,
    trivial,
    algebraic_in_proj,
    trivial,
    algebraic_out_proj,
    trivial,
    algebraic_time_out,
    trivial,
    algebraic_experts,
    trivial,
    algebraic_modulation,
    trivial,
    algebraic_route⟩

end Cert.Proof

end
